-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def preserves_Reference_ReferenceIdeal : Prop :=
  IdealRules.named_const.Statement Cert.ReferenceIdeal.κ "ln_2" .f32 0x3F317218#32 ((Real.log 2 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference)
    ∧ preserves_Kernel_KernelIdeal
    ∧ preserves_Reference_ReferenceIdeal
    ∧ algebraic_KernelIdeal_ReferenceIdeal_pre_in_range (hKernelIdeal := hKernelIdeal) (hReferenceIdeal := hReferenceIdeal) (hPre_in_range := hPre_in_range)
-- ==== Pre_in_range.lean ====
abbrev S4x6144x4096 : Shape := ⟨3, ![4, 6144, 4096]⟩
abbrev S_ : Shape := ⟨0, ![]⟩
abbrev S4x6144x14336 : Shape := ⟨3, ![4, 6144, 14336]⟩
abbrev S4096x14336 : Shape := ⟨2, ![4096, 14336]⟩

class Facts : Prop where
  bitsLt_bf16_f32 : FTy.bits .bf16 < FTy.bits .f32
  reducesTo_S4x6144x14336_S_d0_1_2 : S4x6144x14336.ReducesTo [0, 1, 2] S_
  h_S_ : 0 < S_.numel

variable [Facts]

def fn {F : FTy → Type} [FloatOps F] (main_arg0 : FVec F S4x6144x4096 .fp8e4m3) (main_arg1 : FVec F S_ .f32) (main_arg2 : FVec F S4x6144x14336 .bf16) (main_arg3 : FVec F S4096x14336 .f32) : IVec S_ 1 :=
  let main_v0 : FVec F S4x6144x14336 .f32 := (extf .f32 · bitsLt_bf16_f32) main_arg2
  let main_v1 : FVec F S4x6144x14336 .f32 := Host.absf main_v0
  let main_cst : FVec F S_ .f32 := constant S_ .f32 0xFF800000#32
  let main_v2 : FVec F S_ .f32 := (fun x v => Host.reduce FloatOps.maximumf x v reducesTo_S4x6144x14336_S_d0_1_2 h_S_) main_v1 main_cst
  let main_cst_0 : FVec F S_ .f32 := constant S_ .f32 0x37924925#32
  let main_v3 : FVec F S_ .f32 := mulf main_v2 main_cst_0
  let main_cst_1 : FVec F S_ .f32 := constant S_ .f32 0x00000000#32
  let main_v4 : IVec S_ 1 := cmpf .oeq main_v2 main_cst_1
  let main_cst_2 : FVec F S_ .f32 := constant S_ .f32 0x7F800000#32
  let main_v5 : IVec S_ 1 := cmpf .oeq main_v2 main_cst_2
  let main_v6 : IVec S_ 1 := ori main_v4 main_v5
  let main_cst_3 : FVec F S_ .f32 := constant S_ .f32 0x00800000#32
  let main_v7 : IVec S_ 1 := cmpf .oge main_v3 main_cst_3
  let main_cst_4 : FVec F S_ .f32 := constant S_ .f32 0x7E800000#32
  let main_v8 : IVec S_ 1 := cmpf .olt main_v3 main_cst_4
  let main_v9 : IVec S_ 1 := andi main_v7 main_v8
  let main_v10 : IVec S_ 1 := ori main_v6 main_v9
  main_v10
-- ==== Kernel.lean ====
abbrev S4x6144x4096 : Shape := ⟨3, ![4, 6144, 4096]⟩
abbrev S_ : Shape := ⟨0, ![]⟩
abbrev S4x6144x14336 : Shape := ⟨3, ![4, 6144, 14336]⟩
abbrev S4096x14336 : Shape := ⟨2, ![4096, 14336]⟩
abbrev S24576x4096 : Shape := ⟨2, ![24576, 4096]⟩
abbrev S24576x14336 : Shape := ⟨2, ![24576, 14336]⟩
abbrev S1x1 : Shape := ⟨2, ![1, 1]⟩
abbrev S256x14336 : Shape := ⟨2, ![256, 14336]⟩
abbrev S16x14336 : Shape := ⟨2, ![16, 14336]⟩
abbrev S16x16x14336 : Shape := ⟨3, ![16, 16, 14336]⟩
abbrev S1x16x14336 : Shape := ⟨3, ![1, 16, 14336]⟩
abbrev S1 : Shape := ⟨1, ![1]⟩
abbrev S1x1x1 : Shape := ⟨3, ![1, 1, 1]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 11
  | .vmem => 15
  | .smem => 3
  | _ => 0

abbrev bufTy : (tb : Table) → Fin (tcTables nBuf tb) → BufTy
  | .hbm, ⟨0, _⟩ => ⟨S4x6144x4096, .fp8e4m3⟩
  | .hbm, ⟨1, _⟩ => ⟨S_, .f32⟩
  | .hbm, ⟨2, _⟩ => ⟨S4x6144x14336, .bf16⟩
  | .hbm, ⟨3, _⟩ => ⟨S4096x14336, .f32⟩
  | .hbm, ⟨4, _⟩ => ⟨S24576x4096, .fp8e4m3⟩
  | .hbm, ⟨5, _⟩ => ⟨S24576x14336, .bf16⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S4096x14336, .f32⟩
  | .hbm, ⟨10, _⟩ => ⟨S24576x14336, .fp8e5m2⟩
  | .local _ .vmem, ⟨0, _⟩ => ⟨S256x14336, .bf16⟩
  | .local _ .vmem, ⟨1, _⟩ => ⟨S256x14336, .bf16⟩
  | .local _ .vmem, ⟨2, _⟩ => ⟨S1x1, .f32⟩
  | .local _ .vmem, ⟨3, _⟩ => ⟨S1x1, .f32⟩
  | .local _ .vmem, ⟨4, _⟩ => ⟨S16x14336, .bf16⟩
  | .local _ .vmem, ⟨5, _⟩ => ⟨S1024x2048, .fp8e4m3⟩
  | .local _ .vmem, ⟨6, _⟩ => ⟨S1024x2048, .fp8e4m3⟩
  | .local _ .vmem, ⟨7, _⟩ => ⟨S1024x1024, .bf16⟩
  | .local _ .vmem, ⟨8, _⟩ => ⟨S1024x1024, .bf16⟩
  | .local _ .vmem, ⟨9, _⟩ => ⟨S2048x1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .f32⟩
  | .local _ .vmem, ⟨13, _⟩ => ⟨S1024x1024, .fp8e5m2⟩
  | .local _ .vmem, ⟨14, _⟩ => ⟨S1024x1024, .fp8e5m2⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S4x6144x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg0_0 : Ref sig .tc := ⟨.smem, 0, rfl⟩
abbrev cc1_stg1_0 : Ref sig .tc := ⟨.smem, 1, rfl⟩
abbrev cc1_stg2_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![96], ![false]⟩

def k0_cond3 (i : grid0.Coords) : BitVec 1 :=
  let arg0 : BitVec 32 := BitVec.ofNat 32 (i 0).val
  let c95_i32 : BitVec 32 := 95#32
  let v11 : BitVec 1 := Scalar.cmpi .eq arg0 c95_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x14336 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨3, ![14, 2, 24], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1024x2048 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S2048x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S2048x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S1024x1024 .fp8e5m2 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, true]
-- ==== ReferenceIdeal.lean ====
variable {F : FTy → Type} [FloatOps F] [Named F]
def κ : String → Option EReal := fun
  | "ln_2" => some ((Real.log 2 : ℝ) : EReal)
  | _ => none
-- ==== Reference.lean ====
abbrev S4x6144x4096 : Shape := ⟨3, ![4, 6144, 4096]⟩
abbrev S_ : Shape := ⟨0, ![]⟩
abbrev S4x6144x14336 : Shape := ⟨3, ![4, 6144, 14336]⟩
abbrev S4096x14336 : Shape := ⟨2, ![4096, 14336]⟩
abbrev S1x1 : Shape := ⟨2, ![1, 1]⟩
abbrev S24576x4096 : Shape := ⟨2, ![24576, 4096]⟩
abbrev S24576x14336 : Shape := ⟨2, ![24576, 14336]⟩
abbrev S1x24576x14336 : Shape := ⟨3, ![1, 24576, 14336]⟩
abbrev S1 : Shape := ⟨1, ![1]⟩
abbrev S1x1x1 : Shape := ⟨3, ![1, 1, 1]⟩

abbrev nBuf : Space → Nat
  | .hbm => 10
  | .vmem => 7
  | .smem => 0
  | _ => 0

abbrev bufTy : (tb : Table) → Fin (tcTables nBuf tb) → BufTy
  | .hbm, ⟨0, _⟩ => ⟨S4x6144x4096, .fp8e4m3⟩
  | .hbm, ⟨1, _⟩ => ⟨S_, .f32⟩
  | .hbm, ⟨2, _⟩ => ⟨S4x6144x14336, .bf16⟩
  | .hbm, ⟨3, _⟩ => ⟨S4096x14336, .f32⟩
  | .hbm, ⟨4, _⟩ => ⟨S1x1, .f32⟩
  | .hbm, ⟨5, _⟩ => ⟨S24576x4096, .fp8e4m3⟩
  | .hbm, ⟨6, _⟩ => ⟨S24576x14336, .bf16⟩
  | .hbm, ⟨7, _⟩ => ⟨S4096x14336, .f32⟩
  | .hbm, ⟨8, _⟩ => ⟨S24576x14336, .fp8e5m2⟩
  | .hbm, ⟨9, _⟩ => ⟨S1x1, .f32⟩
  | .local _ .vmem, ⟨0, _⟩ => ⟨S1x1, .f32⟩
  | .local _ .vmem, ⟨1, _⟩ => ⟨S24576x4096, .fp8e4m3⟩
  | .local _ .vmem, ⟨2, _⟩ => ⟨S24576x14336, .bf16⟩
  | .local _ .vmem, ⟨3, _⟩ => ⟨S4096x14336, .f32⟩
  | .local _ .vmem, ⟨4, _⟩ => ⟨S4096x14336, .f32⟩
  | .local _ .vmem, ⟨5, _⟩ => ⟨S24576x14336, .fp8e5m2⟩
  | .local _ .vmem, ⟨6, _⟩ => ⟨S1x1, .f32⟩
  | _, _ => ⟨S4x6144x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x14336 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x14336 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Whole.Kernel.AmaxRuns.lean ====
/- The first kernel call (the running maximum), at any entry contents `V`: its windows' blocks, the branch conditions in
   closed form, and the whole-body run of the kernel in each of its three cases. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 1 % 96 := Pipeline.Grid.coords_val t 0 (by decide) rfl
    simp only [cond0_0, e0]
    word_cmp
   : ∀ t : Fin grid0.N, cond0_0 (grid0.coords t) ↔ t.val % 96 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 96 = 95 :=
  (fun t => by
    have ht : t.val < 96 := Nat.lt_of_lt_of_eq t.isLt N_0
    have e0 : (grid0.coords t 0).val = t.val / 1 % 96 := Pipeline.Grid.coords_val t 0 (by decide) rfl
    simp only [cond0_2, k0_cond3, e0]
    word_cmp
   : ∀ t : Fin grid0.N, cond0_2 (grid0.coords t) ↔ t.val % 96 = 95)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → cfg0.idle 2 (grid0.coords t) = true := by decide +kernel
/-- At the points of case B the pipeline does not write output 2's block back. -/
theorem noFlush0_2_B : ∀ t : Fin cfg0.N, ¬cond0_0 (grid0.coords t) → cond0_1 (grid0.coords t) → ¬cond0_2 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cond0_2 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .vmem S1x1 .f32 := (Memref.whole cc0_stg1_0 : Memref sig .tc .vmem S1x1 .f32).view
/-- One staging buffer of output window 2, through which its contents are stated (`View.read_writes_of_cover`: the
    choice does not matter). -/
abbrev VO0_2 : View sig .tc .vmem S1x1 .f32 := (Memref.whole cc0_stg2_0 : Memref sig .tc .vmem S1x1 .f32).view
/-- Each window's current staging memref at point `t`, spelled as the pipeline passes it (`bodyAt0`), and its wholeness. -/
abbrev ms0_0 (t : Fin cfg0.N) : Memref sig .tc .vmem S256x14336 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S16x14336 .bf16 := Memref.whole cc0_scratch0
/-- The scratch `arg4` the kernel carries between points, as a view: what it holds is stated through it. -/
abbrev VS0_0 : View sig .tc .vmem S16x14336 .bf16 := scM0_0.view

/-- What the invariant carries beside the scratch: the other call's staging buffers at some contents, and the generator
    register at some state. -/
def rest0 (c : Dev nD) : sProp 𝕄 :=
  iprop(iprop((∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)) ∗ (∃ r, prngReg c r))

/-- The class's invariant `ΦA`: the scratch at some contents, beside the rest. -/
theorem PhiA0_eq (c : Dev nD) :
    (Pipeline.ΦA spec0 c : sProp 𝕄) = iprop((∃ d, owns (c : Thread nD τ) scM0_0 fullShare d) ∗ rest0 c) := by
  unfold Pipeline.ΦA rest0; rw [scopedRest0_eq]; simp only [scM0_0, owns_whole]; exact Idealize.SL.BI.Entails.antisymm Idealize.SL.BI.sep_assoc Idealize.SL.BI.sep_assoc'

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) :
    Σ' (L1 : List (View.Piece (Elt F) S1x1 .f32)), Σ' (L2 : List (View.Piece (Elt F) S1x1 .f32)), { LS0 : List (View.Piece (Elt F) S16x14336 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__amax_kernel i arg1 harg1 arg2 harg2 arg3 harg3 arg4 harg4) K } := by
  refine ⟨[], [], ?_, fun xi1 xi2 E K => ?run⟩
  case run =>
    simp only [cc0__amax_kernel_eq_skeleton]; unfold cc0__amax_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 94: 94 of 96), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) :
    Σ' (L1 : List (View.Piece (Elt F) S1x1 .f32)), Σ' (L2 : List (View.Piece (Elt F) S1x1 .f32)), { LS0 : List (View.Piece (Elt F) S16x14336 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__amax_kernel i arg1 harg1 arg2 harg2 arg3 harg3 arg4 harg4) K } := by
  refine ⟨[], [], ?_, fun xi1 xi2 E K => ?run⟩
  case run =>
    simp only [cc0__amax_kernel_eq_skeleton]; unfold cc0__amax_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 95), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) :
    Σ' (L1 : List (View.Piece (Elt F) S1x1 .f32)), Σ' (L2 : List (View.Piece (Elt F) S1x1 .f32)), { LS0 : List (View.Piece (Elt F) S16x14336 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__amax_kernel i arg1 harg1 arg2 harg2 arg3 harg3 arg4 harg4) K } := by
  refine ⟨?_, ?_, ?_, fun E K => ?run⟩
  case run =>
    simp only [cc0__amax_kernel_eq_skeleton]; unfold cc0__amax_kernel_skel
    simp only [k0_part1_eq_skeleton, k0_part2_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    iexists _; iexact HS0

end Cert.Kernel.Gen

end
-- ==== Proof.Whole.Kernel.Amax.lean ====
/- The first kernel call, at any entry contents `V`: what its outputs and its scratch hold after each grid point, the proof
   data over the invariant that carries the scratch, and the body obligation. -/
module

public import proofs.«01_k».proof.Proof.Whole.Kernel.AmaxRuns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) : Vec F S1x1 .f32 :=
  VO0_1.read (Elt F) (VO0_1.writes (Elt F) VO0_1.junk (kernelRun0_A c i arg1 harg1 arg2 harg2 arg3 harg3 arg4 harg4 hc0 hc1 hc2 x0).1)

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) : Vec F S1x1 .f32 :=
  VO0_2.read (Elt F) (VO0_2.writes (Elt F) VO0_2.junk (kernelRun0_A c i arg1 harg1 arg2 harg2 arg3 harg3 arg4 harg4 hc0 hc1 hc2 x0).2.1)

/-- Case A's pieces for scratch `arg4`, which the kernel carries between points, cover it: 1 piece of `S16x14336` tiling it (Lib/Ring.lean `Piece.tiledL`). -/
theorem scover0_A_0 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) (y : S16x14336.Idx) :
    ∃ pc ∈ (kernelRun0_A c i arg1 harg1 arg2 harg2 arg3 harg3 arg4 harg4 hc0 hc1 hc2 x0).2.2.1, y ∈ pc.1.set :=
  View.cover_of_tiledL (kernelRun0_A c i arg1 harg1 arg2 harg2 arg3 harg3 arg4 harg4 hc0 hc1 hc2 x0).2.2.1 S16x14336.size (by sl_kernel_rfl) y

/-- What case A leaves in scratch `arg4`: its pieces read back over junk. -/
def sout0_A_0 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) : Vec F S16x14336 .bf16 :=
  VS0_0.read (Elt F) (VS0_0.writes (Elt F) VS0_0.junk (kernelRun0_A c i arg1 harg1 arg2 harg2 arg3 harg3 arg4 harg4 hc0 hc1 hc2 x0).2.2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) : Vec F S1x1 .f32 :=
  VO0_1.read (Elt F) (VO0_1.writes (Elt F) VO0_1.junk (kernelRun0_B c i arg1 harg1 arg2 harg2 arg3 harg3 arg4 harg4 hc0 hc1 hc2 x0 xs0).1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) : Vec F S1x1 .f32 :=
  VO0_2.read (Elt F) (VO0_2.writes (Elt F) VO0_2.junk (kernelRun0_B c i arg1 harg1 arg2 harg2 arg3 harg3 arg4 harg4 hc0 hc1 hc2 x0 xs0).2.1)

/-- Case B's pieces for scratch `arg4`, which the kernel carries between points, cover it: 1 piece of `S16x14336` tiling it (Lib/Ring.lean `Piece.tiledL`). -/
theorem scover0_B_0 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) (y : S16x14336.Idx) :
    ∃ pc ∈ (kernelRun0_B c i arg1 harg1 arg2 harg2 arg3 harg3 arg4 harg4 hc0 hc1 hc2 x0 xs0).2.2.1, y ∈ pc.1.set :=
  View.cover_of_tiledL (kernelRun0_B c i arg1 harg1 arg2 harg2 arg3 harg3 arg4 harg4 hc0 hc1 hc2 x0 xs0).2.2.1 S16x14336.size (by sl_kernel_rfl) y

/-- What case B leaves in scratch `arg4`: its pieces read back over junk. -/
def sout0_B_0 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) : Vec F S16x14336 .bf16 :=
  VS0_0.read (Elt F) (VS0_0.writes (Elt F) VS0_0.junk (kernelRun0_B c i arg1 harg1 arg2 harg2 arg3 harg3 arg4 harg4 hc0 hc1 hc2 x0 xs0).2.2.1)

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) (y : S1x1.Idx) :
    ∃ pc ∈ (kernelRun0_C c i arg1 harg1 arg2 harg2 arg3 harg3 arg4 harg4 hc0 hc1 hc2 x0 xs0).1, y ∈ pc.1.set :=
  View.cover_of_tiledL (kernelRun0_C c i arg1 harg1 arg2 harg2 arg3 harg3 arg4 harg4 hc0 hc1 hc2 x0 xs0).1 S1x1.size (by sl_kernel_rfl) y

/-- What case C leaves in output 1's staging buffer: its pieces read back over junk. -/
def out0_C_1 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) : Vec F S1x1 .f32 :=
  VO0_1.read (Elt F) (VO0_1.writes (Elt F) VO0_1.junk (kernelRun0_C c i arg1 harg1 arg2 harg2 arg3 harg3 arg4 harg4 hc0 hc1 hc2 x0 xs0).1)

/-- Case C's pieces for output 2 tile its block (1 store of `S1x1`, checked by the kernel's evaluation: Lib/Ring.lean `Piece.tiledL`, linear in the pieces, through a loop's `@[irreducible]` trip theorem too), so they cover it. -/
theorem cover0_C_2 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) (y : S1x1.Idx) :
    ∃ pc ∈ (kernelRun0_C c i arg1 harg1 arg2 harg2 arg3 harg3 arg4 harg4 hc0 hc1 hc2 x0 xs0).2.1, y ∈ pc.1.set :=
  View.cover_of_tiledL (kernelRun0_C c i arg1 harg1 arg2 harg2 arg3 harg3 arg4 harg4 hc0 hc1 hc2 x0 xs0).2.1 S1x1.size (by sl_kernel_rfl) y

/-- What case C leaves in output 2's staging buffer: its pieces read back over junk. -/
def out0_C_2 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) : Vec F S1x1 .f32 :=
  VO0_2.read (Elt F) (VO0_2.writes (Elt F) VO0_2.junk (kernelRun0_C c i arg1 harg1 arg2 harg2 arg3 harg3 arg4 harg4 hc0 hc1 hc2 x0 xs0).2.1)

/-- Case C's pieces for scratch `arg4`, which the kernel carries between points, cover it: 1 piece of `S16x14336` tiling it (Lib/Ring.lean `Piece.tiledL`). -/
theorem scover0_C_0 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) (y : S16x14336.Idx) :
    ∃ pc ∈ (kernelRun0_C c i arg1 harg1 arg2 harg2 arg3 harg3 arg4 harg4 hc0 hc1 hc2 x0 xs0).2.2.1, y ∈ pc.1.set :=
  View.cover_of_tiledL (kernelRun0_C c i arg1 harg1 arg2 harg2 arg3 harg3 arg4 harg4 hc0 hc1 hc2 x0 xs0).2.2.1 S16x14336.size (by sl_kernel_rfl) y

/-- What case C leaves in scratch `arg4`: its pieces read back over junk. -/
def sout0_C_0 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) : Vec F S16x14336 .bf16 :=
  VS0_0.read (Elt F) (VS0_0.writes (Elt F) VS0_0.junk (kernelRun0_C c i arg1 harg1 arg2 harg2 arg3 harg3 arg4 harg4 hc0 hc1 hc2 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S1x1 .f32 × Vec F S16x14336 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩))
  | n + 1, hn =>
    if h0 : (n + 1) % 96 = 0 then
      if h1 : 1 ≤ (n + 1) then
        False.elim (by have hN : n + 1 < 96 := lt_of_lt_of_eq hn (show cfg0.N = 96 from N_0); omega)
      else
        if h2 : (n + 1) % 96 = 95 then
          False.elim (by have hN : n + 1 < 96 := lt_of_lt_of_eq hn (show cfg0.N = 96 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩))
    else
      if h1 : 1 ≤ (n + 1) then
        if h2 : (n + 1) % 96 = 95 then
          (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2)
      else
        False.elim (by have hN : n + 1 < 96 := lt_of_lt_of_eq hn (show cfg0.N = 96 from N_0); omega)

/-- `outsAt0` at a point of case A: that case's contents. -/
theorem outsAt0_A (c : Dev nD) (t : Fin cfg0.N) (h0 : t.val % 96 = 0) (h1 : ¬1 ≤ t.val) (h2 : ¬t.val % 96 = 95) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 96 = 0) (h1 : 1 ≤ t.val) (h2 : ¬t.val % 96 = 95) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 96 = 0) (h1 : 1 ≤ t.val) (h2 : t.val % 96 = 95) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ rest0 c)

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2.2)) ∗ rest0 c) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2)) ∗ rest0 c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS0_pos`; at anything at the first point, `PhiS0_zero`), the other scratch buffers and the generator register at some state, and takes the carried scratch back at this point's contents (`PhiS0_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 96 := lt_of_lt_of_eq t.isLt (show cfg0.N = 96 from N_0)
  by_cases h0 : t.val % 96 = 0
  · by_cases h1 : 1 ≤ t.val
    · exfalso; omega
    · by_cases h2 : t.val % 96 = 95
      · exfalso; omega
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        by_cases hz : t.val = 0
        · rw [PhiS0_castSucc V c t, PhiS0_zero V c _ _ hz, PhiA0_eq]
          rw [outsAt0_A V c t h0 h1 h2]
          unfold sout0_A_0; (try dsimp only)
          iintro ⟨⟨HS0, Hg⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk0 V c 0 t)).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _)
            iexact Hg
          isplitl [Ho]; · iexact Ho
          isplitl [H0]; · iexact H0
          isplitl [H1]; · iexists _; iexact H1
          iexists _; iexact H2
        · exfalso; have hN : t.val < 96 := lt_of_lt_of_eq t.isLt (show cfg0.N = 96 from N_0); omega
  · by_cases h1 : 1 ≤ t.val
    · by_cases h2 : t.val % 96 = 95
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1) ((hcond0_2 t).mpr h2)], after0_1]
        rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1) ((hcond0_2 t).mpr h2)], after0_2]
        by_cases hz : t.val = 0
        · exfalso; have hN : t.val < 96 := lt_of_lt_of_eq t.isLt (show cfg0.N = 96 from N_0); omega
        · rw [PhiS0_castSucc V c t, PhiS0_pos V c _ _ hz]
          rw [outsAt0_C V c t h0 h1 h2]
          unfold out0_C_1 out0_C_2 sout0_C_0; (try dsimp only)
          iintro ⟨⟨HS0, Hg⟩, Ho, ⟨%d0, H0⟩, ⟨%d1, H1⟩, ⟨%d2, H2⟩⟩
          iapply ((kernelRun0_C c (grid0.coords t) _ _ _ _ _ _ _ _ (fun h => h0 ((hcond0_0 t).mp h)) ((hcond0_1 t).mpr h1) ((hcond0_2 t).mpr h2) (iblk0 V c 0 t) _).2.2.2 Set.univ _)
          isplitl [H0]; · iexact H0
          isplitl [H1]; · iexists _; iexact H1
          isplitl [H2]; · iexists _; iexact H2
          isplitl [HS0]; · iexact HS0
          iintro ⟨H0, ⟨%e1, H1⟩, ⟨%e2, H2⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _)
            iexact Hg
          isplitl [Ho]; · iexact Ho
          isplitl [H0]; · iexact H0
          isplitl [H1]
          · unfold owns; iexists _; isplitr
            swap; · iexact H1
            ipureintro; exact View.read_writes_of_cover _ _ _ _ _ (cover0_C_1 c _ _ _ _ _ _ _ _ _ _ _ _ _ _)
          unfold owns; iexists _; isplitr
          swap; · iexact H2
          ipureintro; exact View.read_writes_of_cover _ _ _ _ _ (cover0_C_2 c _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        rw [Dat.leavesExact_idle (dat0 V c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        by_cases hz : t.val = 0
        · exfalso; have hN : t.val < 96 := lt_of_lt_of_eq t.isLt (show cfg0.N = 96 from N_0); omega
        · rw [PhiS0_castSucc V c t, PhiS0_pos V c _ _ hz]
          rw [outsAt0_B V c t h0 h1 h2]
          unfold sout0_B_0; (try dsimp only)
          iintro ⟨⟨HS0, Hg⟩, Ho, ⟨%d0, H0⟩, ⟨%d1, H1⟩, ⟨%d2, H2⟩⟩
          iapply ((kernelRun0_B c (grid0.coords t) _ _ _ _ _ _ _ _ (fun h => h0 ((hcond0_0 t).mp h)) ((hcond0_1 t).mpr h1) (fun h => h2 ((hcond0_2 t).mp h)) (iblk0 V c 0 t) _).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _)
            iexact Hg
          isplitl [Ho]; · iexact Ho
          isplitl [H0]; · iexact H0
          isplitl [H1]; · iexists _; iexact H1
          iexists _; iexact H2
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS0, Hg⟩
  isplitl [HS0]
  · iexists _; iexact HS0
  iexact Hg

/-- The same after the last point. -/
theorem hout0 (c : Dev nD) : (dat0 V c).Φ (Fin.last cfg0.N) ⊢ Pipeline.ΦA spec0 c :=
  Phi_out0 V c _ (by rw [Fin.val_last]; have : cfg0.N = 96 := N_0; omega)

end Cert.Kernel.Gen

end
-- ==== Proof.Whole.Kernel.Dw.lean ====
/- The second kernel call (the blocked product), at any entry contents `V`: its windows' blocks, the whole-body run in each of
   its three cases, what the outputs hold after each grid point, the proof data and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__dw_kernel` (pipeline 1), at the entry contents `V` — class R  -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 24) — by arithmetic of the point. -/
theorem hcond1_0 : ∀ t : Fin cfg1.N, cond1_0 (grid1.coords t) ↔ t.val % 24 = 0 :=
  (fun t => by
    have ht : t.val < 672 := Nat.lt_of_lt_of_eq t.isLt N_1
    have e0 : (grid1.coords t 0).val = t.val / 48 % 14 := Pipeline.Grid.coords_val t 0 (by decide) rfl
    have e1 : (grid1.coords t 1).val = t.val / 24 % 2 := Pipeline.Grid.coords_val t 1 (by decide) rfl
    have e2 : (grid1.coords t 2).val = t.val / 1 % 24 := Pipeline.Grid.coords_val t 2 (by decide) rfl
    simp only [cond1_0, e0, e1, e2]
    word_cmp
   : ∀ t : Fin grid1.N, cond1_0 (grid1.coords t) ↔ t.val % 24 = 0)

/-- The condition of the body's `scf.if` 1 (`k1_h2`), from the grid coordinates (the skeleton's scalar
    chain substituted). -/
abbrev cond1_1 (i : grid1.Coords) : Prop := (Scalar.cmpi .ne (Scalar.extui (Scalar.cmpi .eq (BitVec.ofNat 32 (i 2).val) 23#32)) 0#32) = 1#1
/-- It holds at the points ≡ 23 (mod 24) — by arithmetic of the point. -/
theorem hcond1_1 : ∀ t : Fin cfg1.N, cond1_1 (grid1.coords t) ↔ t.val % 24 = 23 :=
  (fun t => by
    have ht : t.val < 672 := Nat.lt_of_lt_of_eq t.isLt N_1
    have e0 : (grid1.coords t 0).val = t.val / 48 % 14 := Pipeline.Grid.coords_val t 0 (by decide) rfl
    have e1 : (grid1.coords t 1).val = t.val / 24 % 2 := Pipeline.Grid.coords_val t 1 (by decide) rfl
    have e2 : (grid1.coords t 2).val = t.val / 1 % 24 := Pipeline.Grid.coords_val t 2 (by decide) rfl
    simp only [cond1_1, e0, e1, e2]
    word_cmp
   : ∀ t : Fin grid1.N, cond1_1 (grid1.coords t) ↔ t.val % 24 = 23)

/-! ## The kernel body on any staging memrefs: a subtype the run finds -/

/-- One staging buffer of output window 6, through which its contents are stated (`View.read_writes_of_cover`: the
    choice does not matter). -/
abbrev VO1_6 : View sig .tc .vmem S2048x1024 .f32 := (Memref.whole cc1_stg6_0 : Memref sig .tc .vmem S2048x1024 .f32).view
/-- One staging buffer of output window 7, through which its contents are stated (`View.read_writes_of_cover`: the
    choice does not matter). -/
abbrev VO1_7 : View sig .tc .vmem S1024x1024 .fp8e5m2 := (Memref.whole cc1_stg7_0 : Memref sig .tc .vmem S1024x1024 .fp8e5m2).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .smem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .fp8e5m2 := win1_7.stage (cfg1.slots t 7)
abbrev hs1_7 (t : Fin cfg1.N) : (ms1_7 t).IsWhole := hstage1_7 ((cfg1.slots t 7).cast nbuf1_7)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 24, … 648: 28 of 672), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) :
    Σ' (L6 : List (View.Piece (Elt F) S2048x1024 .f32)), { L7 : List (View.Piece (Elt F) S1024x1024 .fp8e5m2) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7)) -∗ K ⟨⟩))
          ⊢ wp frame (wpE (defs₀ (F := F)) Variants.none c none) E (cc1__dw_kernel i arg3 harg3 arg4 harg4 arg5 harg5 arg6 harg6 arg7 harg7 arg8 harg8 arg9 harg9 arg10 harg10) K } := by
  refine ⟨?_, ?_, fun E K => ?run⟩
  case run =>
    simp only [cc1__dw_kernel_eq_skeleton]; unfold cc1__dw_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact H7

/-- Case A's pieces for output 6 tile its block (2 stores of `S2048x1024`, checked by the kernel's evaluation: Lib/Ring.lean `Piece.tiledL`, linear in the pieces, through a loop's `@[irreducible]` trip theorem too), so they cover it. -/
theorem cover1_A_6 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (y : S2048x1024.Idx) :
    ∃ pc ∈ (kernelRun1_A c i arg3 harg3 arg4 harg4 arg5 harg5 arg6 harg6 arg7 harg7 arg8 harg8 arg9 harg9 arg10 harg10 hc0 hc1 x0 x1 x2 x3 x4 x5).1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4 x5).1 S2048x1024.size (by sl_kernel_rfl) y

/-- What case A leaves in output 6's staging buffer: its pieces read back over junk. -/
def out1_A_6 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) : Vec F S2048x1024 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4 x5).1)

/-- Case A's pieces for output 7 tile its block (1 store of `S1024x1024`, checked by the kernel's evaluation: Lib/Ring.lean `Piece.tiledL`, linear in the pieces, through a loop's `@[irreducible]` trip theorem too), so they cover it. -/
theorem cover1_A_7 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (y : S1024x1024.Idx) :
    ∃ pc ∈ (kernelRun1_A c i arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4 x5).2.1 S1024x1024.size (by sl_kernel_rfl) y

/-- What case A leaves in output 7's staging buffer: its pieces read back over junk. -/
def out1_A_7 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) : Vec F S1024x1024 .fp8e5m2 :=
  VO1_7.read (Elt F) (VO1_7.writes (Elt F) VO1_7.junk (kernelRun1_A c i arg3 harg3 arg4 harg4 arg5 harg5 arg6 harg6 arg7 harg7 arg8 harg8 arg9 harg9 arg10 harg10 hc0 hc1 x0 x1 x2 x3 x4 x5).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 670: 616 of 672), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) :
    Σ' (L6 : List (View.Piece (Elt F) S2048x1024 .f32)), { L7 : List (View.Piece (Elt F) S1024x1024 .fp8e5m2) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7)) -∗ K ⟨⟩))
          ⊢ wp frame (wpE (defs₀ (F := F)) Variants.none c none) E (cc1__dw_kernel i arg3 harg3 arg4 harg4 arg5 harg5 arg6 harg6 arg7 harg7 arg8 harg8 arg9 harg9 arg10 harg10) K } := by
  refine ⟨?_, ?_, fun E K => ?run⟩
  case run =>
    simp only [cc1__dw_kernel_eq_skeleton]; unfold cc1__dw_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact H7

/-- Case B's pieces for output 6 tile its block (1 store of `S2048x1024`, checked by the kernel's evaluation: Lib/Ring.lean `Piece.tiledL`, linear in the pieces, through a loop's `@[irreducible]` trip theorem too), so they cover it. -/
theorem cover1_B_6 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) (y : S2048x1024.Idx) :
    ∃ pc ∈ (kernelRun1_B c i arg3 harg3 arg4 harg4 arg5 harg5 arg6 harg6 arg7 harg7 arg8 harg8 arg9 harg9 arg10 harg10 hc0 hc1 x0 x1 x2 x3 x4 x5 xo6).1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 x5 xo6).1 S2048x1024.size (by sl_kernel_rfl) y

/-- What case B leaves in output 6's staging buffer: its pieces read back over junk. -/
def out1_B_6 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) : Vec F S2048x1024 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 x5 xo6).1)

/-- Case B's pieces for output 7 tile its block (1 store of `S1024x1024`, checked by the kernel's evaluation: Lib/Ring.lean `Piece.tiledL`, linear in the pieces, through a loop's `@[irreducible]` trip theorem too), so they cover it. -/
theorem cover1_B_7 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) (y : S1024x1024.Idx) :
    ∃ pc ∈ (kernelRun1_B c i arg3 harg3 arg4 harg4 arg5 harg5 arg6 harg6 arg7 harg7 arg8 harg8 arg9 harg9 arg10 harg10 hc0 hc1 x0 x1 x2 x3 x4 x5 xo6).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 x5 xo6).2.1 S1024x1024.size (by sl_kernel_rfl) y

/-- What case B leaves in output 7's staging buffer: its pieces read back over junk. -/
def out1_B_7 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) : Vec F S1024x1024 .fp8e5m2 :=
  VO1_7.read (Elt F) (VO1_7.writes (Elt F) VO1_7.junk (kernelRun1_B c i arg3 harg3 arg4 harg4 arg5 harg5 arg6 harg6 arg7 harg7 arg8 harg8 arg9 harg9 arg10 harg10 hc0 hc1 x0 x1 x2 x3 x4 x5 xo6).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 23, 47, … 671: 28 of 672), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) :
    Σ' (L6 : List (View.Piece (Elt F) S2048x1024 .f32)), { L7 : List (View.Piece (Elt F) S1024x1024 .fp8e5m2) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7)) -∗ K ⟨⟩))
          ⊢ wp frame (wpE (defs₀ (F := F)) Variants.none c none) E (cc1__dw_kernel i arg3 harg3 arg4 harg4 arg5 harg5 arg6 harg6 arg7 harg7 arg8 harg8 arg9 harg9 arg10 harg10) K } := by
  refine ⟨?_, ?_, fun E K => ?run⟩
  case run =>
    simp only [cc1__dw_kernel_eq_skeleton]; unfold cc1__dw_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact H7

/-- Case C's pieces for output 6 tile its block (2 stores of `S2048x1024`, checked by the kernel's evaluation: Lib/Ring.lean `Piece.tiledL`, linear in the pieces, through a loop's `@[irreducible]` trip theorem too), so they cover it. -/
theorem cover1_C_6 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) (y : S2048x1024.Idx) :
    ∃ pc ∈ (kernelRun1_C c i arg3 harg3 arg4 harg4 arg5 harg5 arg6 harg6 arg7 harg7 arg8 harg8 arg9 harg9 arg10 harg10 hc0 hc1 x0 x1 x2 x3 x4 x5 xo6).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xo6).1 S2048x1024.size (by sl_kernel_rfl) y

/-- What case C leaves in output 6's staging buffer: its pieces read back over junk. -/
def out1_C_6 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) : Vec F S2048x1024 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 x5 xo6).1)

/-- Case C's pieces for output 7 tile its block (1 store of `S1024x1024`, checked by the kernel's evaluation: Lib/Ring.lean `Piece.tiledL`, linear in the pieces, through a loop's `@[irreducible]` trip theorem too), so they cover it. -/
theorem cover1_C_7 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) (y : S1024x1024.Idx) :
    ∃ pc ∈ (kernelRun1_C c i arg3 harg3 arg4 harg4 arg5 harg5 arg6 harg6 arg7 harg7 arg8 harg8 arg9 harg9 arg10 harg10 hc0 hc1 x0 x1 x2 x3 x4 x5 xo6).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xo6).2.1 S1024x1024.size (by sl_kernel_rfl) y

/-- What case C leaves in output 7's staging buffer: its pieces read back over junk. -/
def out1_C_7 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) : Vec F S1024x1024 .fp8e5m2 :=
  VO1_7.read (Elt F) (VO1_7.writes (Elt F) VO1_7.junk (kernelRun1_C c i arg3 harg3 arg4 harg4 arg5 harg5 arg6 harg6 arg7 harg7 arg8 harg8 arg9 harg9 arg10 harg10 hc0 hc1 x0 x1 x2 x3 x4 x5 xo6).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S2048x1024 .f32 × Vec F S1024x1024 .fp8e5m2
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 24 = 0 then
      if h1 : (n + 1) % 24 = 23 then
        False.elim (by have hN : n + 1 < 672 := lt_of_lt_of_eq hn (show cfg1.N = 672 from N_1); omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 24 = 23 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1)

/-- `outsAt1` at a point of case A: that case's contents. -/
theorem outsAt1_A (c : Dev nD) (t : Fin cfg1.N) (h0 : t.val % 24 = 0) (h1 : ¬t.val % 24 = 23) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 24 = 0) (h1 : ¬t.val % 24 = 23) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 24 = 0) (h1 : t.val % 24 = 23) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
/-- At a point of case B output 6's current staging buffer holds what the body left at the point before: the point is
    not the first, the buffer was not written back between (`flush1_6`), the window is live and uncut (Lib/Pipeline/Frame.lean
    `Dat.before_out_kept`). -/
theorem before1_6_B (c : Dev nD) (t : Fin cfg1.N) (h0 : ¬t.val % 24 = 0) (h1 : ¬t.val % 24 = 23) (d) :
    (dat1 V c).before 6 t d = (outsAt1 V c (t.val - 1) (Nat.lt_of_le_of_lt (Nat.sub_le _ _) t.isLt)).1 := by
  have hN : t.val < 672 := lt_of_lt_of_eq t.isLt (show cfg1.N = 672 from N_1)
  rw [Dat.before_out_kept _ 6 rfl t (by omega) (Bool.eq_false_iff.mpr fun h => by have := (flush1_6 _).mp h; dsimp only at this; omega)
    (fun _ => rfl) (fun _ _ => rfl)]
  dsimp only [dat1]
/-- At a point of case C output 6's current staging buffer holds what the body left at the point before: the point is
    not the first, the buffer was not written back between (`flush1_6`), the window is live and uncut (Lib/Pipeline/Frame.lean
    `Dat.before_out_kept`). -/
theorem before1_6_C (c : Dev nD) (t : Fin cfg1.N) (h0 : ¬t.val % 24 = 0) (h1 : t.val % 24 = 23) (d) :
    (dat1 V c).before 6 t d = (outsAt1 V c (t.val - 1) (Nat.lt_of_le_of_lt (Nat.sub_le _ _) t.isLt)).1 := by
  have hN : t.val < 672 := lt_of_lt_of_eq t.isLt (show cfg1.N = 672 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 2400000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  have hN : t.val < 672 := lt_of_lt_of_eq t.isLt (show cfg1.N = 672 from N_1)
  by_cases h0 : t.val % 24 = 0
  · by_cases h1 : t.val % 24 = 23
    · exfalso; omega
    · rw [outsAt1_A V c t h0 h1]
      unfold out1_A_6 out1_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _)
  · by_cases h1 : t.val % 24 = 23
    · rw [outsAt1_C V c t h0 h1]
      simp only [before1_6_C V c t h0 h1]
      unfold out1_C_6 out1_C_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _)
    · rw [outsAt1_B V c t h0 h1]
      simp only [before1_6_B V c t h0 h1]
      unfold out1_B_6 out1_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _)
      unfold owns; iexists _; isplitr
      swap; · iexact H7
      ipureintro; exact View.read_writes_of_cover _ _ _ _ _ (cover1_B_7 c _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Gen

end
-- ==== Proof.Whole.Kernel.Frame.lean ====
/- The two kernel calls put together: the buffer contents at every boundary of @main, the two calls as segments, and the frame. -/
module

public import proofs.«01_k».proof.Proof.Whole.Kernel.Amax
public import proofs.«01_k».proof.Proof.Whole.Kernel.Dw

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c; unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout0 (V1 m ρ) c; unfold Pipeline.ΦA at h
    rw [Pipeline.ownSems0_none, show (pdats m ρ 0 c).Φ (Fin.last _) = (dat0 (V1 m ρ) c).Φ (Fin.last cfg0.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN. At any memory and generator registers, every weakly-fair schedule terminates without fault in a final state
    that has every unscoped buffer at the last boundary's contents and every semaphore counter of the machine at zero: the
    kit's launch over the segments, the last thread state read against the final state (`pointsTo_read_all`). -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME. Every weakly-fair schedule terminates without fault in a final state that has the argument arrays as launched
    and every semaphore counter at zero: the run, each argument by `W4_<arg>`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c)⟩, h.2⟩) (run m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.Kernel.Gen

end
-- ==== Proof.Whole.KernelIdeal.AmaxRuns.lean ====
/- The first kernel call (the running maximum), at any entry contents `V`: its windows' blocks, the branch conditions in
   closed form, and the whole-body run of the kernel in each of its three cases. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 1 % 96 := Pipeline.Grid.coords_val t 0 (by decide) rfl
    simp only [cond0_0, e0]
    word_cmp
   : ∀ t : Fin grid0.N, cond0_0 (grid0.coords t) ↔ t.val % 96 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 96 = 95 :=
  (fun t => by
    have ht : t.val < 96 := Nat.lt_of_lt_of_eq t.isLt N_0
    have e0 : (grid0.coords t 0).val = t.val / 1 % 96 := Pipeline.Grid.coords_val t 0 (by decide) rfl
    simp only [cond0_2, k0_cond3, e0]
    word_cmp
   : ∀ t : Fin grid0.N, cond0_2 (grid0.coords t) ↔ t.val % 96 = 95)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → cfg0.idle 2 (grid0.coords t) = true := by decide +kernel
/-- At the points of case B the pipeline does not write output 2's block back. -/
theorem noFlush0_2_B : ∀ t : Fin cfg0.N, ¬cond0_0 (grid0.coords t) → cond0_1 (grid0.coords t) → ¬cond0_2 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cond0_2 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .vmem S1x1 .f32 := (Memref.whole cc0_stg1_0 : Memref sig .tc .vmem S1x1 .f32).view
/-- One staging buffer of output window 2, through which its contents are stated (`View.read_writes_of_cover`: the
    choice does not matter). -/
abbrev VO0_2 : View sig .tc .vmem S1x1 .f32 := (Memref.whole cc0_stg2_0 : Memref sig .tc .vmem S1x1 .f32).view
/-- Each window's current staging memref at point `t`, spelled as the pipeline passes it (`bodyAt0`), and its wholeness. -/
abbrev ms0_0 (t : Fin cfg0.N) : Memref sig .tc .vmem S256x14336 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S16x14336 .bf16 := Memref.whole cc0_scratch0
/-- The scratch `arg4` the kernel carries between points, as a view: what it holds is stated through it. -/
abbrev VS0_0 : View sig .tc .vmem S16x14336 .bf16 := scM0_0.view

/-- What the invariant carries beside the scratch: the other call's staging buffers at some contents, and the generator
    register at some state. -/
def rest0 (c : Dev nD) : sProp 𝕄 :=
  iprop(iprop((∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)) ∗ (∃ r, prngReg c r))

/-- The class's invariant `ΦA`: the scratch at some contents, beside the rest. -/
theorem PhiA0_eq (c : Dev nD) :
    (Pipeline.ΦA spec0 c : sProp 𝕄) = iprop((∃ d, owns (c : Thread nD τ) scM0_0 fullShare d) ∗ rest0 c) := by
  unfold Pipeline.ΦA rest0; rw [scopedRest0_eq]; simp only [scM0_0, owns_whole]; exact Idealize.SL.BI.Entails.antisymm Idealize.SL.BI.sep_assoc Idealize.SL.BI.sep_assoc'

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) :
    Σ' (L1 : List (View.Piece (Elt F) S1x1 .f32)), Σ' (L2 : List (View.Piece (Elt F) S1x1 .f32)), { LS0 : List (View.Piece (Elt F) S16x14336 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__amax_kernel i arg1 harg1 arg2 harg2 arg3 harg3 arg4 harg4) K } := by
  refine ⟨[], [], ?_, fun xi1 xi2 E K => ?run⟩
  case run =>
    simp only [cc0__amax_kernel_eq_skeleton]; unfold cc0__amax_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 94: 94 of 96), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) :
    Σ' (L1 : List (View.Piece (Elt F) S1x1 .f32)), Σ' (L2 : List (View.Piece (Elt F) S1x1 .f32)), { LS0 : List (View.Piece (Elt F) S16x14336 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__amax_kernel i arg1 harg1 arg2 harg2 arg3 harg3 arg4 harg4) K } := by
  refine ⟨[], [], ?_, fun xi1 xi2 E K => ?run⟩
  case run =>
    simp only [cc0__amax_kernel_eq_skeleton]; unfold cc0__amax_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 95), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) :
    Σ' (L1 : List (View.Piece (Elt F) S1x1 .f32)), Σ' (L2 : List (View.Piece (Elt F) S1x1 .f32)), { LS0 : List (View.Piece (Elt F) S16x14336 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__amax_kernel i arg1 harg1 arg2 harg2 arg3 harg3 arg4 harg4) K } := by
  refine ⟨?_, ?_, ?_, fun E K => ?run⟩
  case run =>
    simp only [cc0__amax_kernel_eq_skeleton]; unfold cc0__amax_kernel_skel
    simp only [k0_part1_eq_skeleton, k0_part2_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    iexists _; iexact HS0

end Cert.KernelIdeal.Gen

end
-- ==== Proof.Whole.KernelIdeal.Amax.lean ====
/- The first kernel call, at any entry contents `V`: what its outputs and its scratch hold after each grid point, the proof
   data over the invariant that carries the scratch, and the body obligation. -/
module

public import proofs.«01_k».proof.Proof.Whole.KernelIdeal.AmaxRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) : Vec F S1x1 .f32 :=
  VO0_1.read (Elt F) (VO0_1.writes (Elt F) VO0_1.junk (kernelRun0_A c i arg1 harg1 arg2 harg2 arg3 harg3 arg4 harg4 hc0 hc1 hc2 x0).1)

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) : Vec F S1x1 .f32 :=
  VO0_2.read (Elt F) (VO0_2.writes (Elt F) VO0_2.junk (kernelRun0_A c i arg1 harg1 arg2 harg2 arg3 harg3 arg4 harg4 hc0 hc1 hc2 x0).2.1)

/-- Case A's pieces for scratch `arg4`, which the kernel carries between points, cover it: 1 piece of `S16x14336` tiling it (Lib/Ring.lean `Piece.tiledL`). -/
theorem scover0_A_0 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) (y : S16x14336.Idx) :
    ∃ pc ∈ (kernelRun0_A c i arg1 harg1 arg2 harg2 arg3 harg3 arg4 harg4 hc0 hc1 hc2 x0).2.2.1, y ∈ pc.1.set :=
  View.cover_of_tiledL (kernelRun0_A c i arg1 harg1 arg2 harg2 arg3 harg3 arg4 harg4 hc0 hc1 hc2 x0).2.2.1 S16x14336.size (by sl_kernel_rfl) y

/-- What case A leaves in scratch `arg4`: its pieces read back over junk. -/
def sout0_A_0 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) : Vec F S16x14336 .bf16 :=
  VS0_0.read (Elt F) (VS0_0.writes (Elt F) VS0_0.junk (kernelRun0_A c i arg1 harg1 arg2 harg2 arg3 harg3 arg4 harg4 hc0 hc1 hc2 x0).2.2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) : Vec F S1x1 .f32 :=
  VO0_1.read (Elt F) (VO0_1.writes (Elt F) VO0_1.junk (kernelRun0_B c i arg1 harg1 arg2 harg2 arg3 harg3 arg4 harg4 hc0 hc1 hc2 x0 xs0).1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) : Vec F S1x1 .f32 :=
  VO0_2.read (Elt F) (VO0_2.writes (Elt F) VO0_2.junk (kernelRun0_B c i arg1 harg1 arg2 harg2 arg3 harg3 arg4 harg4 hc0 hc1 hc2 x0 xs0).2.1)

/-- Case B's pieces for scratch `arg4`, which the kernel carries between points, cover it: 1 piece of `S16x14336` tiling it (Lib/Ring.lean `Piece.tiledL`). -/
theorem scover0_B_0 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) (y : S16x14336.Idx) :
    ∃ pc ∈ (kernelRun0_B c i arg1 harg1 arg2 harg2 arg3 harg3 arg4 harg4 hc0 hc1 hc2 x0 xs0).2.2.1, y ∈ pc.1.set :=
  View.cover_of_tiledL (kernelRun0_B c i arg1 harg1 arg2 harg2 arg3 harg3 arg4 harg4 hc0 hc1 hc2 x0 xs0).2.2.1 S16x14336.size (by sl_kernel_rfl) y

/-- What case B leaves in scratch `arg4`: its pieces read back over junk. -/
def sout0_B_0 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) : Vec F S16x14336 .bf16 :=
  VS0_0.read (Elt F) (VS0_0.writes (Elt F) VS0_0.junk (kernelRun0_B c i arg1 harg1 arg2 harg2 arg3 harg3 arg4 harg4 hc0 hc1 hc2 x0 xs0).2.2.1)

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) (y : S1x1.Idx) :
    ∃ pc ∈ (kernelRun0_C c i arg1 harg1 arg2 harg2 arg3 harg3 arg4 harg4 hc0 hc1 hc2 x0 xs0).1, y ∈ pc.1.set :=
  View.cover_of_tiledL (kernelRun0_C c i arg1 harg1 arg2 harg2 arg3 harg3 arg4 harg4 hc0 hc1 hc2 x0 xs0).1 S1x1.size (by sl_kernel_rfl) y

/-- What case C leaves in output 1's staging buffer: its pieces read back over junk. -/
def out0_C_1 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) : Vec F S1x1 .f32 :=
  VO0_1.read (Elt F) (VO0_1.writes (Elt F) VO0_1.junk (kernelRun0_C c i arg1 harg1 arg2 harg2 arg3 harg3 arg4 harg4 hc0 hc1 hc2 x0 xs0).1)

/-- Case C's pieces for output 2 tile its block (1 store of `S1x1`, checked by the kernel's evaluation: Lib/Ring.lean `Piece.tiledL`, linear in the pieces, through a loop's `@[irreducible]` trip theorem too), so they cover it. -/
theorem cover0_C_2 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) (y : S1x1.Idx) :
    ∃ pc ∈ (kernelRun0_C c i arg1 harg1 arg2 harg2 arg3 harg3 arg4 harg4 hc0 hc1 hc2 x0 xs0).2.1, y ∈ pc.1.set :=
  View.cover_of_tiledL (kernelRun0_C c i arg1 harg1 arg2 harg2 arg3 harg3 arg4 harg4 hc0 hc1 hc2 x0 xs0).2.1 S1x1.size (by sl_kernel_rfl) y

/-- What case C leaves in output 2's staging buffer: its pieces read back over junk. -/
def out0_C_2 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) : Vec F S1x1 .f32 :=
  VO0_2.read (Elt F) (VO0_2.writes (Elt F) VO0_2.junk (kernelRun0_C c i arg1 harg1 arg2 harg2 arg3 harg3 arg4 harg4 hc0 hc1 hc2 x0 xs0).2.1)

/-- Case C's pieces for scratch `arg4`, which the kernel carries between points, cover it: 1 piece of `S16x14336` tiling it (Lib/Ring.lean `Piece.tiledL`). -/
theorem scover0_C_0 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) (y : S16x14336.Idx) :
    ∃ pc ∈ (kernelRun0_C c i arg1 harg1 arg2 harg2 arg3 harg3 arg4 harg4 hc0 hc1 hc2 x0 xs0).2.2.1, y ∈ pc.1.set :=
  View.cover_of_tiledL (kernelRun0_C c i arg1 harg1 arg2 harg2 arg3 harg3 arg4 harg4 hc0 hc1 hc2 x0 xs0).2.2.1 S16x14336.size (by sl_kernel_rfl) y

/-- What case C leaves in scratch `arg4`: its pieces read back over junk. -/
def sout0_C_0 (c : Dev nD) (i : grid0.Coords) (arg1 : Memref sig .tc .vmem S256x14336 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) : Vec F S16x14336 .bf16 :=
  VS0_0.read (Elt F) (VS0_0.writes (Elt F) VS0_0.junk (kernelRun0_C c i arg1 harg1 arg2 harg2 arg3 harg3 arg4 harg4 hc0 hc1 hc2 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S1x1 .f32 × Vec F S16x14336 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩))
  | n + 1, hn =>
    if h0 : (n + 1) % 96 = 0 then
      if h1 : 1 ≤ (n + 1) then
        False.elim (by have hN : n + 1 < 96 := lt_of_lt_of_eq hn (show cfg0.N = 96 from N_0); omega)
      else
        if h2 : (n + 1) % 96 = 95 then
          False.elim (by have hN : n + 1 < 96 := lt_of_lt_of_eq hn (show cfg0.N = 96 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩))
    else
      if h1 : 1 ≤ (n + 1) then
        if h2 : (n + 1) % 96 = 95 then
          (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2)
      else
        False.elim (by have hN : n + 1 < 96 := lt_of_lt_of_eq hn (show cfg0.N = 96 from N_0); omega)

/-- `outsAt0` at a point of case A: that case's contents. -/
theorem outsAt0_A (c : Dev nD) (t : Fin cfg0.N) (h0 : t.val % 96 = 0) (h1 : ¬1 ≤ t.val) (h2 : ¬t.val % 96 = 95) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 96 = 0) (h1 : 1 ≤ t.val) (h2 : ¬t.val % 96 = 95) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 96 = 0) (h1 : 1 ≤ t.val) (h2 : t.val % 96 = 95) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ rest0 c)

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2.2)) ∗ rest0 c) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2)) ∗ rest0 c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS0_pos`; at anything at the first point, `PhiS0_zero`), the other scratch buffers and the generator register at some state, and takes the carried scratch back at this point's contents (`PhiS0_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 96 := lt_of_lt_of_eq t.isLt (show cfg0.N = 96 from N_0)
  by_cases h0 : t.val % 96 = 0
  · by_cases h1 : 1 ≤ t.val
    · exfalso; omega
    · by_cases h2 : t.val % 96 = 95
      · exfalso; omega
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        by_cases hz : t.val = 0
        · rw [PhiS0_castSucc V c t, PhiS0_zero V c _ _ hz, PhiA0_eq]
          rw [outsAt0_A V c t h0 h1 h2]
          unfold sout0_A_0; (try dsimp only)
          iintro ⟨⟨HS0, Hg⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk0 V c 0 t)).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _)
            iexact Hg
          isplitl [Ho]; · iexact Ho
          isplitl [H0]; · iexact H0
          isplitl [H1]; · iexists _; iexact H1
          iexists _; iexact H2
        · exfalso; have hN : t.val < 96 := lt_of_lt_of_eq t.isLt (show cfg0.N = 96 from N_0); omega
  · by_cases h1 : 1 ≤ t.val
    · by_cases h2 : t.val % 96 = 95
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1) ((hcond0_2 t).mpr h2)], after0_1]
        rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1) ((hcond0_2 t).mpr h2)], after0_2]
        by_cases hz : t.val = 0
        · exfalso; have hN : t.val < 96 := lt_of_lt_of_eq t.isLt (show cfg0.N = 96 from N_0); omega
        · rw [PhiS0_castSucc V c t, PhiS0_pos V c _ _ hz]
          rw [outsAt0_C V c t h0 h1 h2]
          unfold out0_C_1 out0_C_2 sout0_C_0; (try dsimp only)
          iintro ⟨⟨HS0, Hg⟩, Ho, ⟨%d0, H0⟩, ⟨%d1, H1⟩, ⟨%d2, H2⟩⟩
          iapply ((kernelRun0_C c (grid0.coords t) _ _ _ _ _ _ _ _ (fun h => h0 ((hcond0_0 t).mp h)) ((hcond0_1 t).mpr h1) ((hcond0_2 t).mpr h2) (iblk0 V c 0 t) _).2.2.2 Set.univ _)
          isplitl [H0]; · iexact H0
          isplitl [H1]; · iexists _; iexact H1
          isplitl [H2]; · iexists _; iexact H2
          isplitl [HS0]; · iexact HS0
          iintro ⟨H0, ⟨%e1, H1⟩, ⟨%e2, H2⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _)
            iexact Hg
          isplitl [Ho]; · iexact Ho
          isplitl [H0]; · iexact H0
          isplitl [H1]
          · unfold owns; iexists _; isplitr
            swap; · iexact H1
            ipureintro; exact View.read_writes_of_cover _ _ _ _ _ (cover0_C_1 c _ _ _ _ _ _ _ _ _ _ _ _ _ _)
          unfold owns; iexists _; isplitr
          swap; · iexact H2
          ipureintro; exact View.read_writes_of_cover _ _ _ _ _ (cover0_C_2 c _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        rw [Dat.leavesExact_idle (dat0 V c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        by_cases hz : t.val = 0
        · exfalso; have hN : t.val < 96 := lt_of_lt_of_eq t.isLt (show cfg0.N = 96 from N_0); omega
        · rw [PhiS0_castSucc V c t, PhiS0_pos V c _ _ hz]
          rw [outsAt0_B V c t h0 h1 h2]
          unfold sout0_B_0; (try dsimp only)
          iintro ⟨⟨HS0, Hg⟩, Ho, ⟨%d0, H0⟩, ⟨%d1, H1⟩, ⟨%d2, H2⟩⟩
          iapply ((kernelRun0_B c (grid0.coords t) _ _ _ _ _ _ _ _ (fun h => h0 ((hcond0_0 t).mp h)) ((hcond0_1 t).mpr h1) (fun h => h2 ((hcond0_2 t).mp h)) (iblk0 V c 0 t) _).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _)
            iexact Hg
          isplitl [Ho]; · iexact Ho
          isplitl [H0]; · iexact H0
          isplitl [H1]; · iexists _; iexact H1
          iexists _; iexact H2
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS0, Hg⟩
  isplitl [HS0]
  · iexists _; iexact HS0
  iexact Hg

/-- The same after the last point. -/
theorem hout0 (c : Dev nD) : (dat0 V c).Φ (Fin.last cfg0.N) ⊢ Pipeline.ΦA spec0 c :=
  Phi_out0 V c _ (by rw [Fin.val_last]; have : cfg0.N = 96 := N_0; omega)

end Cert.KernelIdeal.Gen

end
-- ==== Proof.Whole.KernelIdeal.Dw.lean ====
/- The second kernel call (the blocked product), at any entry contents `V`: its windows' blocks, the whole-body run in each of
   its three cases, what the outputs hold after each grid point, the proof data and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__dw_kernel` (pipeline 1), at the entry contents `V` — class R  -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 24) — by arithmetic of the point. -/
theorem hcond1_0 : ∀ t : Fin cfg1.N, cond1_0 (grid1.coords t) ↔ t.val % 24 = 0 :=
  (fun t => by
    have ht : t.val < 672 := Nat.lt_of_lt_of_eq t.isLt N_1
    have e0 : (grid1.coords t 0).val = t.val / 48 % 14 := Pipeline.Grid.coords_val t 0 (by decide) rfl
    have e1 : (grid1.coords t 1).val = t.val / 24 % 2 := Pipeline.Grid.coords_val t 1 (by decide) rfl
    have e2 : (grid1.coords t 2).val = t.val / 1 % 24 := Pipeline.Grid.coords_val t 2 (by decide) rfl
    simp only [cond1_0, e0, e1, e2]
    word_cmp
   : ∀ t : Fin grid1.N, cond1_0 (grid1.coords t) ↔ t.val % 24 = 0)

/-- The condition of the body's `scf.if` 1 (`k1_h2`), from the grid coordinates (the skeleton's scalar
    chain substituted). -/
abbrev cond1_1 (i : grid1.Coords) : Prop := (Scalar.cmpi .ne (Scalar.extui (Scalar.cmpi .eq (BitVec.ofNat 32 (i 2).val) 23#32)) 0#32) = 1#1
/-- It holds at the points ≡ 23 (mod 24) — by arithmetic of the point. -/
theorem hcond1_1 : ∀ t : Fin cfg1.N, cond1_1 (grid1.coords t) ↔ t.val % 24 = 23 :=
  (fun t => by
    have ht : t.val < 672 := Nat.lt_of_lt_of_eq t.isLt N_1
    have e0 : (grid1.coords t 0).val = t.val / 48 % 14 := Pipeline.Grid.coords_val t 0 (by decide) rfl
    have e1 : (grid1.coords t 1).val = t.val / 24 % 2 := Pipeline.Grid.coords_val t 1 (by decide) rfl
    have e2 : (grid1.coords t 2).val = t.val / 1 % 24 := Pipeline.Grid.coords_val t 2 (by decide) rfl
    simp only [cond1_1, e0, e1, e2]
    word_cmp
   : ∀ t : Fin grid1.N, cond1_1 (grid1.coords t) ↔ t.val % 24 = 23)

/-! ## The kernel body on any staging memrefs: a subtype the run finds -/

/-- One staging buffer of output window 6, through which its contents are stated (`View.read_writes_of_cover`: the
    choice does not matter). -/
abbrev VO1_6 : View sig .tc .vmem S2048x1024 .f32 := (Memref.whole cc1_stg6_0 : Memref sig .tc .vmem S2048x1024 .f32).view
/-- One staging buffer of output window 7, through which its contents are stated (`View.read_writes_of_cover`: the
    choice does not matter). -/
abbrev VO1_7 : View sig .tc .vmem S1024x1024 .fp8e5m2 := (Memref.whole cc1_stg7_0 : Memref sig .tc .vmem S1024x1024 .fp8e5m2).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .smem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .fp8e5m2 := win1_7.stage (cfg1.slots t 7)
abbrev hs1_7 (t : Fin cfg1.N) : (ms1_7 t).IsWhole := hstage1_7 ((cfg1.slots t 7).cast nbuf1_7)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 24, … 648: 28 of 672), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) :
    Σ' (L6 : List (View.Piece (Elt F) S2048x1024 .f32)), { L7 : List (View.Piece (Elt F) S1024x1024 .fp8e5m2) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7)) -∗ K ⟨⟩))
          ⊢ wp frame (wpE (defs₀ (F := F)) Variants.none c none) E (cc1__dw_kernel i arg3 harg3 arg4 harg4 arg5 harg5 arg6 harg6 arg7 harg7 arg8 harg8 arg9 harg9 arg10 harg10) K } := by
  refine ⟨?_, ?_, fun E K => ?run⟩
  case run =>
    simp only [cc1__dw_kernel_eq_skeleton]; unfold cc1__dw_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact H7

/-- Case A's pieces for output 6 tile its block (2 stores of `S2048x1024`, checked by the kernel's evaluation: Lib/Ring.lean `Piece.tiledL`, linear in the pieces, through a loop's `@[irreducible]` trip theorem too), so they cover it. -/
theorem cover1_A_6 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (y : S2048x1024.Idx) :
    ∃ pc ∈ (kernelRun1_A c i arg3 harg3 arg4 harg4 arg5 harg5 arg6 harg6 arg7 harg7 arg8 harg8 arg9 harg9 arg10 harg10 hc0 hc1 x0 x1 x2 x3 x4 x5).1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4 x5).1 S2048x1024.size (by sl_kernel_rfl) y

/-- What case A leaves in output 6's staging buffer: its pieces read back over junk. -/
def out1_A_6 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) : Vec F S2048x1024 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4 x5).1)

/-- Case A's pieces for output 7 tile its block (1 store of `S1024x1024`, checked by the kernel's evaluation: Lib/Ring.lean `Piece.tiledL`, linear in the pieces, through a loop's `@[irreducible]` trip theorem too), so they cover it. -/
theorem cover1_A_7 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (y : S1024x1024.Idx) :
    ∃ pc ∈ (kernelRun1_A c i arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4 x5).2.1 S1024x1024.size (by sl_kernel_rfl) y

/-- What case A leaves in output 7's staging buffer: its pieces read back over junk. -/
def out1_A_7 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) : Vec F S1024x1024 .fp8e5m2 :=
  VO1_7.read (Elt F) (VO1_7.writes (Elt F) VO1_7.junk (kernelRun1_A c i arg3 harg3 arg4 harg4 arg5 harg5 arg6 harg6 arg7 harg7 arg8 harg8 arg9 harg9 arg10 harg10 hc0 hc1 x0 x1 x2 x3 x4 x5).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 670: 616 of 672), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) :
    Σ' (L6 : List (View.Piece (Elt F) S2048x1024 .f32)), { L7 : List (View.Piece (Elt F) S1024x1024 .fp8e5m2) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7)) -∗ K ⟨⟩))
          ⊢ wp frame (wpE (defs₀ (F := F)) Variants.none c none) E (cc1__dw_kernel i arg3 harg3 arg4 harg4 arg5 harg5 arg6 harg6 arg7 harg7 arg8 harg8 arg9 harg9 arg10 harg10) K } := by
  refine ⟨?_, ?_, fun E K => ?run⟩
  case run =>
    simp only [cc1__dw_kernel_eq_skeleton]; unfold cc1__dw_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact H7

/-- Case B's pieces for output 6 tile its block (1 store of `S2048x1024`, checked by the kernel's evaluation: Lib/Ring.lean `Piece.tiledL`, linear in the pieces, through a loop's `@[irreducible]` trip theorem too), so they cover it. -/
theorem cover1_B_6 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) (y : S2048x1024.Idx) :
    ∃ pc ∈ (kernelRun1_B c i arg3 harg3 arg4 harg4 arg5 harg5 arg6 harg6 arg7 harg7 arg8 harg8 arg9 harg9 arg10 harg10 hc0 hc1 x0 x1 x2 x3 x4 x5 xo6).1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 x5 xo6).1 S2048x1024.size (by sl_kernel_rfl) y

/-- What case B leaves in output 6's staging buffer: its pieces read back over junk. -/
def out1_B_6 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) : Vec F S2048x1024 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 x5 xo6).1)

/-- Case B's pieces for output 7 tile its block (1 store of `S1024x1024`, checked by the kernel's evaluation: Lib/Ring.lean `Piece.tiledL`, linear in the pieces, through a loop's `@[irreducible]` trip theorem too), so they cover it. -/
theorem cover1_B_7 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) (y : S1024x1024.Idx) :
    ∃ pc ∈ (kernelRun1_B c i arg3 harg3 arg4 harg4 arg5 harg5 arg6 harg6 arg7 harg7 arg8 harg8 arg9 harg9 arg10 harg10 hc0 hc1 x0 x1 x2 x3 x4 x5 xo6).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 x5 xo6).2.1 S1024x1024.size (by sl_kernel_rfl) y

/-- What case B leaves in output 7's staging buffer: its pieces read back over junk. -/
def out1_B_7 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : ¬cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) : Vec F S1024x1024 .fp8e5m2 :=
  VO1_7.read (Elt F) (VO1_7.writes (Elt F) VO1_7.junk (kernelRun1_B c i arg3 harg3 arg4 harg4 arg5 harg5 arg6 harg6 arg7 harg7 arg8 harg8 arg9 harg9 arg10 harg10 hc0 hc1 x0 x1 x2 x3 x4 x5 xo6).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 23, 47, … 671: 28 of 672), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) :
    Σ' (L6 : List (View.Piece (Elt F) S2048x1024 .f32)), { L7 : List (View.Piece (Elt F) S1024x1024 .fp8e5m2) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7)) -∗ K ⟨⟩))
          ⊢ wp frame (wpE (defs₀ (F := F)) Variants.none c none) E (cc1__dw_kernel i arg3 harg3 arg4 harg4 arg5 harg5 arg6 harg6 arg7 harg7 arg8 harg8 arg9 harg9 arg10 harg10) K } := by
  refine ⟨?_, ?_, fun E K => ?run⟩
  case run =>
    simp only [cc1__dw_kernel_eq_skeleton]; unfold cc1__dw_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact H7

/-- Case C's pieces for output 6 tile its block (2 stores of `S2048x1024`, checked by the kernel's evaluation: Lib/Ring.lean `Piece.tiledL`, linear in the pieces, through a loop's `@[irreducible]` trip theorem too), so they cover it. -/
theorem cover1_C_6 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) (y : S2048x1024.Idx) :
    ∃ pc ∈ (kernelRun1_C c i arg3 harg3 arg4 harg4 arg5 harg5 arg6 harg6 arg7 harg7 arg8 harg8 arg9 harg9 arg10 harg10 hc0 hc1 x0 x1 x2 x3 x4 x5 xo6).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xo6).1 S2048x1024.size (by sl_kernel_rfl) y

/-- What case C leaves in output 6's staging buffer: its pieces read back over junk. -/
def out1_C_6 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) : Vec F S2048x1024 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 x5 xo6).1)

/-- Case C's pieces for output 7 tile its block (1 store of `S1024x1024`, checked by the kernel's evaluation: Lib/Ring.lean `Piece.tiledL`, linear in the pieces, through a loop's `@[irreducible]` trip theorem too), so they cover it. -/
theorem cover1_C_7 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) (y : S1024x1024.Idx) :
    ∃ pc ∈ (kernelRun1_C c i arg3 harg3 arg4 harg4 arg5 harg5 arg6 harg6 arg7 harg7 arg8 harg8 arg9 harg9 arg10 harg10 hc0 hc1 x0 x1 x2 x3 x4 x5 xo6).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xo6).2.1 S1024x1024.size (by sl_kernel_rfl) y

/-- What case C leaves in output 7's staging buffer: its pieces read back over junk. -/
def out1_C_7 (c : Dev nD) (i : grid1.Coords) (arg3 : Memref sig .tc .smem S1x1 .f32) (harg3 : arg3.IsWhole) (arg4 : Memref sig .tc .smem S1x1 .f32) (harg4 : arg4.IsWhole) (arg5 : Memref sig .tc .smem S1x1 .f32) (harg5 : arg5.IsWhole) (arg6 : Memref sig .tc .vmem S1024x2048 .fp8e4m3) (harg6 : arg6.IsWhole) (arg7 : Memref sig .tc .vmem S1024x1024 .bf16) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S1024x1024 .fp8e5m2) (harg10 : arg10.IsWhole) (hc0 : ¬cond1_0 i) (hc1 : cond1_1 i)
    (x0 : Vec F S1x1 .f32) (x1 : Vec F S1x1 .f32) (x2 : Vec F S1x1 .f32) (x3 : Vec F S1024x2048 .fp8e4m3) (x4 : Vec F S1024x1024 .bf16) (x5 : Vec F S2048x1024 .f32) (xo6 : Vec F S2048x1024 .f32) : Vec F S1024x1024 .fp8e5m2 :=
  VO1_7.read (Elt F) (VO1_7.writes (Elt F) VO1_7.junk (kernelRun1_C c i arg3 harg3 arg4 harg4 arg5 harg5 arg6 harg6 arg7 harg7 arg8 harg8 arg9 harg9 arg10 harg10 hc0 hc1 x0 x1 x2 x3 x4 x5 xo6).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S2048x1024 .f32 × Vec F S1024x1024 .fp8e5m2
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 24 = 0 then
      if h1 : (n + 1) % 24 = 23 then
        False.elim (by have hN : n + 1 < 672 := lt_of_lt_of_eq hn (show cfg1.N = 672 from N_1); omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 24 = 23 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1)

/-- `outsAt1` at a point of case A: that case's contents. -/
theorem outsAt1_A (c : Dev nD) (t : Fin cfg1.N) (h0 : t.val % 24 = 0) (h1 : ¬t.val % 24 = 23) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 24 = 0) (h1 : ¬t.val % 24 = 23) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 24 = 0) (h1 : t.val % 24 = 23) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
/-- At a point of case B output 6's current staging buffer holds what the body left at the point before: the point is
    not the first, the buffer was not written back between (`flush1_6`), the window is live and uncut (Lib/Pipeline/Frame.lean
    `Dat.before_out_kept`). -/
theorem before1_6_B (c : Dev nD) (t : Fin cfg1.N) (h0 : ¬t.val % 24 = 0) (h1 : ¬t.val % 24 = 23) (d) :
    (dat1 V c).before 6 t d = (outsAt1 V c (t.val - 1) (Nat.lt_of_le_of_lt (Nat.sub_le _ _) t.isLt)).1 := by
  have hN : t.val < 672 := lt_of_lt_of_eq t.isLt (show cfg1.N = 672 from N_1)
  rw [Dat.before_out_kept _ 6 rfl t (by omega) (Bool.eq_false_iff.mpr fun h => by have := (flush1_6 _).mp h; dsimp only at this; omega)
    (fun _ => rfl) (fun _ _ => rfl)]
  dsimp only [dat1]
/-- At a point of case C output 6's current staging buffer holds what the body left at the point before: the point is
    not the first, the buffer was not written back between (`flush1_6`), the window is live and uncut (Lib/Pipeline/Frame.lean
    `Dat.before_out_kept`). -/
theorem before1_6_C (c : Dev nD) (t : Fin cfg1.N) (h0 : ¬t.val % 24 = 0) (h1 : t.val % 24 = 23) (d) :
    (dat1 V c).before 6 t d = (outsAt1 V c (t.val - 1) (Nat.lt_of_le_of_lt (Nat.sub_le _ _) t.isLt)).1 := by
  have hN : t.val < 672 := lt_of_lt_of_eq t.isLt (show cfg1.N = 672 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 2400000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  have hN : t.val < 672 := lt_of_lt_of_eq t.isLt (show cfg1.N = 672 from N_1)
  by_cases h0 : t.val % 24 = 0
  · by_cases h1 : t.val % 24 = 23
    · exfalso; omega
    · rw [outsAt1_A V c t h0 h1]
      unfold out1_A_6 out1_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _)
  · by_cases h1 : t.val % 24 = 23
    · rw [outsAt1_C V c t h0 h1]
      simp only [before1_6_C V c t h0 h1]
      unfold out1_C_6 out1_C_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _)
    · rw [outsAt1_B V c t h0 h1]
      simp only [before1_6_B V c t h0 h1]
      unfold out1_B_6 out1_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _)
      unfold owns; iexists _; isplitr
      swap; · iexact H7
      ipureintro; exact View.read_writes_of_cover _ _ _ _ _ (cover1_B_7 c _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.Whole.KernelIdeal.Frame.lean ====
/- The two kernel calls put together: the buffer contents at every boundary of @main, the two calls as segments, and the frame. -/
module

public import proofs.«01_k».proof.Proof.Whole.KernelIdeal.Amax
public import proofs.«01_k».proof.Proof.Whole.KernelIdeal.Dw

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c; unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout0 (V1 m ρ) c; unfold Pipeline.ΦA at h
    rw [Pipeline.ownSems0_none, show (pdats m ρ 0 c).Φ (Fin.last _) = (dat0 (V1 m ρ) c).Φ (Fin.last cfg0.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN. At any memory and generator registers, every weakly-fair schedule terminates without fault in a final state
    that has every unscoped buffer at the last boundary's contents and every semaphore counter of the machine at zero: the
    kit's launch over the segments, the last thread state read against the final state (`pointsTo_read_all`). -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME. Every weakly-fair schedule terminates without fault in a final state that has the argument arrays as launched
    and every semaphore counter at zero: the run, each argument by `W4_<arg>`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c)⟩, h.2⟩) (run m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.KernelIdeal.Gen

end
-- ==== Proof.Value.Bounds.lean ====
module

public import Idealize.ShloMosaic.PureOps.Ideal
public import Idealize.ShloMosaic.PureOps.Ideal.Laws
public import Idealize.ShloMosaic.PureOps.Reduce

/-! Maxima over the extended reals by their upper bounds: a number bounds a maximum taken from minus infinity exactly
when it bounds every element, in whatever order and shape the maximum is taken. -/

@[expose] public section

set_option maxRecDepth 16384

noncomputable section

namespace Cert.Bounds

open Idealize.ShloMosaic

/-- `u` bounds the absolute value of every element of `x`. -/
def Bounds {s : Shape} (x : s.Idx → EReal) (u : EReal) : Prop := ∀ i, max (x i) (-(x i)) ≤ u

/-- A reshape has the same bounds. -/
theorem bounds_shapeCast {s t : Shape} (x : s.Idx → EReal) (h : s.ShapeCasts t) (u : EReal) :
    Bounds (shapeCast t x h) u ↔ Bounds x u :=
  ⟨fun hb i => by simpa [shapeCast] using hb ((Shape.reshapeEquiv h).symm i), fun hb i => hb _⟩

/-- Every element of a reshape, and every element of what is reshaped. -/
theorem forall_shapeCast {s t : Shape} (x : s.Idx → EReal) (h : s.ShapeCasts t) (u : EReal) :
    (∀ j, shapeCast t x h j ≤ u) ↔ ∀ i, x i ≤ u :=
  ⟨fun hb i => by simpa [shapeCast] using hb ((Shape.reshapeEquiv h).symm i), fun hb i => hb _⟩

/-- The bounds of a maximum taken from minus infinity. -/
theorem fold_le {ι : Type} (s : Finset ι) (x : ι → EReal) (b u : EReal) (hb : b = ⊥) :
    s.fold max b x ≤ u ↔ ∀ i ∈ s, x i ≤ u := by
  rw [Finset.fold_max_le, hb]
  exact ⟨fun h => h.2, fun h => ⟨bot_le, h⟩⟩

theorem bot_f32 : Ideal.ofBits .f32 0xFF800000#32 = ⊥ := by simp [Ideal.ofBits, Ideal.ieee]
theorem bot_bf16 : Ideal.ofBits .bf16 0xFF80#16 = ⊥ := by simp [Ideal.ofBits, Ideal.ieee]

/-- The bounds of a bf16 maximum over some axes, over every result element. -/
theorem max_bf16_le {s t : Shape} {axes : List (Fin s.rank)} (x : FVec Ideal s .bf16) (h : s.Reduces axes t) (hφ) (hacc) (u : EReal) :
    (∀ j, multiReduction (F := Ideal) .maximumf axes t x 0xFF80#16 h hφ hacc j ≤ u) ↔ ∀ i, x i ≤ u := by
  constructor
  · intro hb i
    have := hb (h.drop i)
    rw [multiReduction_maximumf_eq_fold] at this
    exact (fold_le _ _ _ _ bot_bf16).mp this i (by simp)
  · intro hb j
    rw [multiReduction_maximumf_eq_fold]
    exact (fold_le _ _ _ _ bot_bf16).mpr fun i _ => hb i

/-- The bounds of an f32 maximum over some axes, over every result element. -/
theorem max_f32_le {s t : Shape} {axes : List (Fin s.rank)} (x : FVec Ideal s .f32) (h : s.Reduces axes t) (hφ) (hacc) (u : EReal) :
    (∀ j, multiReduction (F := Ideal) .maximumf axes t x 0xFF800000#32 h hφ hacc j ≤ u) ↔ ∀ i, x i ≤ u := by
  constructor
  · intro hb i
    have := hb (h.drop i)
    rw [multiReduction_maximumf_eq_fold] at this
    exact (fold_le _ _ _ _ bot_f32).mp this i (by simp)
  · intro hb j
    rw [multiReduction_maximumf_eq_fold]
    exact (fold_le _ _ _ _ bot_f32).mpr fun i _ => hb i

/-- The bounds of a host maximum over some axes, over every result element. -/
theorem host_max_le {s t u' : Shape} {axes : List (Fin s.rank)} (x : FVec Ideal s .f32) (init : FVec Ideal u' .f32)
    (hi : init = fun _ => ⊥) (h : s.ReducesTo axes t) (hu : 0 < u'.numel) (u : EReal) :
    (∀ j, Host.reduce (FloatOps.maximumf (F := Ideal) (φ := .f32)) x init h hu j ≤ u) ↔ ∀ i, x i ≤ u := by
  constructor
  · intro hb i
    have := hb (h.drop i)
    rw [Host.reduce_eq_fold] at this
    exact (fold_le _ _ _ _ (by rw [hi])).mp this i (by simp)
  · intro hb j
    rw [Host.reduce_eq_fold]
    exact (fold_le _ _ _ _ (by rw [hi])).mpr fun i _ => hb i

/-- The bounds of a one-element array, read as a number and laid out again. -/
theorem one_le {t : Shape} (x : FVec Ideal ⟨1, ![1]⟩ .f32) (h : Shape.ShapeCasts ⟨1, ![1]⟩ ⟨3, ![1, 1, 1]⟩) (hp) (j : t.Idx) (u : EReal) :
    broadcast t (extractAt ![0, 0, 0] (shapeCast ⟨3, ![1, 1, 1]⟩ x h) hp) j ≤ u ↔ ∀ k, x k ≤ u := by
  have hk : ∃ k : Shape.Idx ⟨1, ![1]⟩, broadcast t (extractAt ![0, 0, 0] (shapeCast ⟨3, ![1, 1, 1]⟩ x h) hp) j = x k := ⟨_, rfl⟩
  obtain ⟨k, hk⟩ := hk
  rw [hk]
  refine ⟨fun hb k' => ?_, fun hb => hb k⟩
  have e : k' = k := funext fun a => match a with | ⟨0, _⟩ => Subsingleton.elim (α := Fin 1) _ _
  rw [e]
  exact hb

end Cert.Bounds

end
-- ==== Proof.Value.Exponent.lean ====
module

public import Idealize.ShloMosaic.PureOps.Ideal
public import Idealize.ShloMosaic.PureOps.Ideal.Laws
public import Mathlib.Analysis.SpecialFunctions.Pow.Real
public import Mathlib.Analysis.SpecialFunctions.Log.Basic

/-! The power-of-two scale over the extended reals. The kernel finds the exponent field of `p` by a binary search over
the powers of two and writes the scale as a word; the reference takes the floor of the base-two logarithm and `exp2`.
Both are the same power of two while `p` lies in the range where the word of the scale and the word of its
inverse are normal numbers, and at a maximum of zero or infinity. -/

@[expose] public section

set_option maxRecDepth 16384

noncomputable section

namespace Cert.Exponent

open Idealize.ShloMosaic

/-- The number whose word has exponent field `w` and no fraction bits. -/
def power (w : BitVec 32) : EReal := Ideal.ofBits .f32 (IntOp.shli .vector w 23#32)

/-- One step of the search: set the bit `b` of the field if the number it names does not exceed `p`. -/
def step (p : EReal) (f b : BitVec 32) : BitVec 32 :=
  Scalar.select (Ideal.cmp .oge p (power (IntOp.addi f b))) (IntOp.addi f b) f

/-- The exponent field that the search finds. -/
def field (p : EReal) : BitVec 32 :=
  step p (step p (step p (step p (step p (step p (step p (step p 0#32 128#32) 64#32) 32#32) 16#32) 8#32) 4#32) 2#32) 1#32

/-- The factor that the maximum is multiplied by, 1/57344 rounded to f32. -/
def factor : EReal := Ideal.ofBits .f32 0x37924925#32

/-- The kernel's exponent of the scale. -/
def expo (a : EReal) : BitVec 32 :=
  Scalar.select (Ideal.cmp .oeq a (Ideal.ofBits .f32 0x00000000#32)) 0#32
    (Scalar.select (IntOp.ori (IntOp.cmpi .eq (field (a * factor)) 0#32) (IntOp.cmpi .eq (field (a * factor)) 255#32)) 0#32
      (IntOp.subi (field (a * factor)) 126#32))

/-- The kernel's scale. -/
def scale (a : EReal) : EReal := power (IntOp.addi (expo a) 127#32)

/-- The kernel's inverse scale. -/
def inv (a : EReal) : EReal := power (IntOp.addi (IntOp.subi 0#32 (expo a)) 127#32)

/-- The reference's exponent of the scale. -/
def refExpo (a : EReal) : EReal :=
  Scalar.select (IntOp.ori (Ideal.cmp .oeq a (Ideal.ofBits .f32 0x00000000#32)) (Ideal.cmp .oeq a (Ideal.ofBits .f32 0x7F800000#32)))
    (Ideal.ofBits .f32 0x00000000#32)
    (Ideal.liftRound Int.floor (Ideal.div (Ideal.log (a * factor)) ((Real.log 2 : ℝ) : EReal)) + Ideal.ofBits .f32 0x3F800000#32)

/-- The maxima at which the scale and its inverse are normal f32 numbers, with zero and infinity. -/
def InRange (a : EReal) : Prop :=
  a = Ideal.ofBits .f32 0x00000000#32 ∨ a = Ideal.ofBits .f32 0x7F800000#32
    ∨ (Ideal.ofBits .f32 0x00800000#32 ≤ a * factor ∧ a * factor < Ideal.ofBits .f32 0x7E800000#32)

/-- The word shifted into the exponent field, by its number. -/
theorem shifted (w : BitVec 32) (h : w.toNat ≤ 255) :
    (IntOp.shli .vector w 23#32).toNat = w.toNat * 2 ^ 23 := by
  have e : IntOp.shli .vector w 23#32 = w <<< 23 := by
    simp [IntOp.shli]
  rw [e, BitVec.toNat_shiftLeft, Nat.shiftLeft_eq]
  omega

/-- A field from 1 to 254 names the power of two with that biased exponent. -/
theorem power_normal (w : BitVec 32) (h0 : 1 ≤ w.toNat) (h1 : w.toNat ≤ 254) :
    power w = (((2 : ℝ) ^ ((w.toNat : ℤ) - 127) : ℝ) : EReal) := by
  have hs := shifted w (by omega)
  have hex : ((IntOp.shli .vector w 23#32).extractLsb' 23 8).toNat = w.toNat := by
    rw [BitVec.extractLsb'_toNat, hs, Nat.shiftRight_eq_div_pow]; omega
  have hfr : ((IntOp.shli .vector w 23#32).extractLsb' 0 23).toNat = 0 := by
    rw [BitVec.extractLsb'_toNat, hs]; simp
  have hng : ((IntOp.shli .vector w 23#32).extractLsb' 31 1 == 1#1) = false := by
    rw [beq_eq_false_iff_ne]
    intro hc
    have := congrArg BitVec.toNat hc
    rw [BitVec.extractLsb'_toNat, hs, Nat.shiftRight_eq_div_pow] at this
    simp at this; omega
  simp only [power, Ideal.ofBits, Ideal.ieee, hex, hfr, hng]
  rw [if_neg (by omega), if_neg (by omega)]
  refine congrArg (fun r : ℝ => (r : EReal)) ?_
  have e : ((w.toNat : ℤ) - (2 ^ (8 - 1) - 1) - (23 : ℕ)) = ((w.toNat : ℤ) - 127) - 23 := by norm_num
  rw [e, zpow_sub₀ (by norm_num : (2:ℝ) ≠ 0)]
  generalize (2 : ℝ) ^ ((w.toNat : ℤ) - 127) = x
  norm_num
  ring

/-- The field 255 names infinity. -/
theorem power_top : power 255#32 = ⊤ := by
  have : IntOp.shli .vector 255#32 23#32 = 0x7F800000#32 := by decide
  rw [power, this]
  simp [Ideal.ofBits, Ideal.ieee]

theorem ofBits_inf : Ideal.ofBits .f32 0x7F800000#32 = ⊤ := by simp [Ideal.ofBits, Ideal.ieee]

theorem ofBits_one : Ideal.ofBits .f32 0x3F800000#32 = 1 := by
  have h := power_normal 127#32 (by decide) (by decide)
  have e : IntOp.shli .vector 127#32 23#32 = 0x3F800000#32 := by decide
  rw [power, e] at h
  rw [h]; norm_num

theorem factor_pos : (0 : EReal) < factor := by
  simp [factor, Ideal.ofBits, Ideal.ieee]
  first
    | positivity
    | exact_mod_cast (by positivity)

/-- The lower end of the range is the power of two with field 1. -/
theorem ofBits_low : Ideal.ofBits .f32 0x00800000#32 = (((2 : ℝ) ^ (-126 : ℤ) : ℝ) : EReal) := by
  have h := power_normal 1#32 (by decide) (by decide)
  have e : IntOp.shli .vector 1#32 23#32 = 0x00800000#32 := by decide
  rw [power, e] at h
  rw [h]; norm_num

/-- The upper end of the range is the power of two with field 253. -/
theorem ofBits_high : Ideal.ofBits .f32 0x7E800000#32 = (((2 : ℝ) ^ (126 : ℤ) : ℝ) : EReal) := by
  have h := power_normal 253#32 (by decide) (by decide)
  have e : IntOp.shli .vector 253#32 23#32 = 0x7E800000#32 := by decide
  rw [power, e] at h
  rw [h]; norm_num

/-- A step keeps the field that is sought between the field so far and the bits still to set. -/
theorem step_spec (p : EReal) (n : ℕ) (hp : ∀ w : BitVec 32, 1 ≤ w.toNat → w.toNat ≤ 255 → (power w ≤ p ↔ w.toNat ≤ n))
    (f b : BitVec 32) (hb : 1 ≤ b.toNat)
    (h : f.toNat ≤ n ∧ n < f.toNat + 2 * b.toNat ∧ f.toNat + 2 * b.toNat ≤ 256) :
    (step p f b).toNat ≤ n ∧ n < (step p f b).toNat + b.toNat ∧ (step p f b).toNat + b.toNat ≤ 256 := by
  have hadd : (IntOp.addi f b).toNat = f.toNat + b.toNat := by
    rw [show IntOp.addi f b = f + b from rfl, BitVec.toNat_add]; omega
  have hq := hp (IntOp.addi f b) (by omega) (by omega)
  by_cases hc : power (IntOp.addi f b) ≤ p
  · have : step p f b = IntOp.addi f b := by simp [step, Scalar.select, Ideal.cmp, hc]
    rw [this, hadd]
    have := hq.mp hc
    omega
  · have : step p f b = f := by simp [step, Scalar.select, Ideal.cmp, hc]
    rw [this]
    have := mt hq.mpr hc
    omega

/-- The search finds the largest field whose number does not exceed `p`. -/
theorem field_spec (p : EReal) (n : ℕ) (hn : n < 256)
    (hp : ∀ w : BitVec 32, 1 ≤ w.toNat → w.toNat ≤ 255 → (power w ≤ p ↔ w.toNat ≤ n)) :
    field p = BitVec.ofNat 32 n := by
  have h0 : (0#32).toNat ≤ n ∧ n < (0#32).toNat + 2 * (128#32).toNat ∧ (0#32).toNat + 2 * (128#32).toNat ≤ 256 := by
    simp; omega
  have h1 := step_spec p n hp _ 128#32 (by decide) h0
  have h2 := step_spec p n hp _ 64#32 (by decide) h1
  have h3 := step_spec p n hp _ 32#32 (by decide) h2
  have h4 := step_spec p n hp _ 16#32 (by decide) h3
  have h5 := step_spec p n hp _ 8#32 (by decide) h4
  have h6 := step_spec p n hp _ 4#32 (by decide) h5
  have h7 := step_spec p n hp _ 2#32 (by decide) h6
  have h8 := step_spec p n hp _ 1#32 (by decide) h7
  apply BitVec.eq_of_toNat_eq
  rw [BitVec.toNat_ofNat, Nat.mod_eq_of_lt (by omega)]
  have : (1#32).toNat = 1 := rfl
  rw [this] at h8
  unfold field
  omega

/-- At infinity the search finds the field 255. -/
theorem field_top : field ⊤ = 255#32 :=
  field_spec ⊤ 255 (by decide) fun w _ h => ⟨fun _ => h, fun _ => le_top⟩

/-- At a real number between the ends of the range the search finds its biased exponent. -/
theorem field_real (r : ℝ) (h0 : (2 : ℝ) ^ (-126 : ℤ) ≤ r) (h1 : r < (2 : ℝ) ^ (126 : ℤ)) :
    ∃ n : ℕ, 1 ≤ n ∧ n ≤ 252 ∧ field r = BitVec.ofNat 32 n ∧ ⌊Real.log r / Real.log 2⌋ = (n : ℤ) - 127 := by
  have hr : 0 < r := lt_of_lt_of_le (by positivity) h0
  have hl2 : 0 < Real.log 2 := Real.log_pos (by norm_num)
  have key : ∀ z : ℤ, (2 : ℝ) ^ z ≤ r ↔ z ≤ ⌊Real.log r / Real.log 2⌋ := by
    intro z
    rw [Int.le_floor, le_div_iff₀ hl2, ← Real.log_zpow, Real.log_le_log_iff (by positivity) hr]
  have hlo := (key (-126)).mp h0
  have hhi : ⌊Real.log r / Real.log 2⌋ < 126 := by
    by_contra hc
    exact absurd ((key 126).mpr (not_lt.mp hc)) (not_le.mpr h1)
  generalize ⌊Real.log r / Real.log 2⌋ = L at *
  refine ⟨(L + 127).toNat, by omega, by omega, field_spec _ _ (by omega) ?_, by omega⟩
  intro w hw0 hw1
  by_cases hw : w.toNat ≤ 254
  · rw [power_normal w hw0 hw, EReal.coe_le_coe_iff, key]
    omega
  · have : w = 255#32 := BitVec.eq_of_toNat_eq (by simp; omega)
    subst this
    rw [power_top]
    constructor
    · intro h; exact absurd h (not_le.mpr (EReal.coe_lt_top r))
    · intro h; simp at h; omega

theorem exp2_int (z : ℤ) : Ideal.exp2 (((z : ℝ) : ℝ) : EReal) = (((2 : ℝ) ^ z : ℝ) : EReal) := by
  show ((Real.rpow 2 (z : ℝ) : ℝ) : EReal) = _
  rw [← Real.rpow_intCast]; rfl

theorem power_127 : power 127#32 = 1 := by
  rw [power_normal _ (by decide) (by decide)]; norm_num

/-- When both exponents are zero the scales are one. -/
theorem scale_of_zero (a : EReal) (h : expo a = 0#32) : scale a = 1 ∧ inv a = 1 := by
  constructor
  · rw [scale, h, ← power_127]; rfl
  · rw [inv, h, ← power_127]; rfl

theorem exp2_zero : Ideal.exp2 0 = 1 := by
  have := exp2_int 0
  simpa using this

/-- The kernel's scale and inverse scale are the reference's, at every maximum in range. -/
theorem scales_eq (a : EReal) (h : InRange a) :
    scale a = Ideal.exp2 (refExpo a) ∧ inv a = Ideal.exp2 (Ideal.ofBits .f32 0x00000000#32 - refExpo a) := by
  by_cases hz : a = 0
  · have e : expo a = 0#32 := by simp [expo, hz, Ideal.cmp, Scalar.select, Ideal.ofBits_zero_f32]
    have r : refExpo a = 0 := by
      simp only [refExpo, hz, Ideal.cmp, Scalar.select, Ideal.ofBits_zero_f32, ofBits_inf, IntOp.ori]
      simp
    obtain ⟨h1, h2⟩ := scale_of_zero a e
    rw [h1, h2, r, Ideal.ofBits_zero_f32]
    simp [exp2_zero]
  by_cases ht : a = ⊤
  · have hf : field (a * factor) = 255#32 := by
      rw [ht, EReal.top_mul_of_pos factor_pos, field_top]
    have e : expo a = 0#32 := by
      have : IntOp.ori (IntOp.cmpi .eq (255#32) 0#32) (IntOp.cmpi .eq (255#32) 255#32) = 1#1 := by decide
      simp only [expo, hf, this]
      simp [Scalar.select]
    have r : refExpo a = 0 := by
      simp [refExpo, ht, Ideal.cmp, Scalar.select, Ideal.ofBits_zero_f32, ofBits_inf, IntOp.ori]
    obtain ⟨h1, h2⟩ := scale_of_zero a e
    rw [h1, h2, r, Ideal.ofBits_zero_f32]
    simp [exp2_zero]
  rcases h with h | h | ⟨h0, h1⟩
  · exact absurd (h.trans Ideal.ofBits_zero_f32) hz
  · exact absurd (h.trans ofBits_inf) ht
  rw [ofBits_low] at h0
  rw [ofBits_high] at h1
  have hp : ∃ r : ℝ, a * factor = (r : EReal) := by
    refine ⟨(a * factor).toReal, (EReal.coe_toReal (ne_top_of_lt h1) ?_).symm⟩
    exact ne_bot_of_le_ne_bot (EReal.coe_ne_bot _) h0
  obtain ⟨r, hr⟩ := hp
  rw [hr, EReal.coe_le_coe_iff] at h0
  rw [hr, EReal.coe_lt_coe_iff] at h1
  obtain ⟨n, hn0, hn1, hf, hL⟩ := field_real r h0 h1
  have hrpos : 0 < r := lt_of_lt_of_le (by positivity) h0
  have hl2 : Real.log 2 ≠ 0 := (Real.log_pos (by norm_num)).ne'
  have e : expo a = BitVec.ofNat 32 n - 126#32 := by
    have c1 : (BitVec.ofNat 32 n == 0#32) = false := by
      rw [beq_eq_false_iff_ne]; intro hc
      have := congrArg BitVec.toNat hc
      rw [BitVec.toNat_ofNat] at this; simp at this; omega
    have c2 : (BitVec.ofNat 32 n == 255#32) = false := by
      rw [beq_eq_false_iff_ne]; intro hc
      have := congrArg BitVec.toNat hc
      rw [BitVec.toNat_ofNat] at this; simp at this; omega
    simp [expo, hr, hf, Ideal.cmp, Scalar.select, Ideal.ofBits_zero_f32, hz, IntOp.cmpi, c1, c2, IntOp.ori, IntOp.subi]
  have r' : refExpo a = (((n : ℤ) - 126 : ℤ) : ℝ) := by
    have : refExpo a = Ideal.liftRound Int.floor (Ideal.div (Ideal.log (r : EReal)) ((Real.log 2 : ℝ) : EReal)) + 1 := by
      simp [refExpo, hr, Ideal.cmp, Scalar.select, Ideal.ofBits_zero_f32, ofBits_inf, ofBits_one, hz, ht, IntOp.ori]
    rw [this, Ideal.div_coe hl2]
    have hlog : Ideal.log (r : EReal) = ((Real.log r : ℝ) : EReal) := by
      show (if r ≤ 0 then (⊥ : EReal) else _) = _
      rw [if_neg (not_le.mpr hrpos)]
    rw [hlog, ← EReal.coe_mul, mul_one_div, Ideal.liftRound_coe, hL, ← EReal.coe_one, ← EReal.coe_add]
    congr 1
    push_cast; ring
  rw [r', Ideal.ofBits_zero_f32, zero_sub, ← EReal.coe_neg, ← Int.cast_neg, exp2_int, exp2_int]
  constructor
  · have hw : (IntOp.addi (expo a) 127#32).toNat = n + 1 := by
      rw [e]
      show (BitVec.ofNat 32 n - 126#32 + 127#32).toNat = _
      rw [BitVec.toNat_add, BitVec.toNat_sub, BitVec.toNat_ofNat]
      simp; omega
    rw [scale, power_normal _ (by omega) (by omega), hw]
    congr 2; push_cast; ring
  · have hw : (IntOp.addi (IntOp.subi 0#32 (expo a)) 127#32).toNat = 253 - n := by
      rw [e]
      show (0#32 - (BitVec.ofNat 32 n - 126#32) + 127#32).toNat = _
      rw [BitVec.toNat_add, BitVec.toNat_sub, BitVec.toNat_sub, BitVec.toNat_ofNat]
      simp; omega
    rw [inv, power_normal _ (by omega) (by omega), hw]
    congr 2; omega

end Cert.Exponent

end
-- ==== Proof.Value.Search.lean ====
module

public import proofs.«01_k».proof.Proof.Gen.KernelIdeal.Skeleton
public import proofs.«01_k».proof.Proof.Value.Exponent

/-! The last point of the maximum call, on one-element arrays: the binary search for the exponent field, the exponent,
the scale and the inverse scale of the maximum over the scratch. -/

@[expose] public section

set_option maxRecDepth 16384

noncomputable section

namespace Cert.KernelIdeal.Amax

open Idealize.ShloMosaic
open Cert.KernelIdeal Cert.KernelIdeal.Gen

/-- One step of the search, on one-element arrays. -/
def vstep (p : FVec Ideal S1x1 .f32) (f b : IVec S1x1 32) : IVec S1x1 32 :=
  have v : IVec S1x1 32 := addi f b
  have w : IVec S1x1 32 := broadcast S1x1 23#32
  have x : IVec S1x1 32 := shli v w
  have y : FVec Ideal S1x1 .f32 := bitcastToFloat .f32 x
  have z : IVec S1x1 1 := cmpf .oge p y
  select z v f

theorem vstep_apply (p : FVec Ideal S1x1 .f32) (f b : IVec S1x1 32) (j : S1x1.Idx) :
    vstep p f b j = Exponent.step (p j) (f j) (b j) := rfl

/-- The search's first five steps. -/
theorem search_first (s : Vec Ideal S16x14336 .bf16) :
    k0_pay7 (F := Ideal) s
      = vstep (k0_pay6 s) (vstep (k0_pay6 s) (vstep (k0_pay6 s) (vstep (k0_pay6 s) (vstep (k0_pay6 s)
          (broadcast S1x1 0#32) (broadcast S1x1 128#32)) (broadcast S1x1 64#32)) (broadcast S1x1 32#32))
          (broadcast S1x1 16#32)) (broadcast S1x1 8#32) := by
  rfl

/-- The exponent from the maximum and the field, on one-element arrays. -/
def vexpo (a : FVec Ideal S1x1 .f32) (g : IVec S1x1 32) : IVec S1x1 32 :=
  have b0 : IVec S1x1 32 := broadcast S1x1 0#32
  have z0 : IVec S1x1 1 := cmpi .eq g b0
  have b1 : IVec S1x1 32 := broadcast S1x1 255#32
  have z1 : IVec S1x1 1 := cmpi .eq g b1
  have z2 : IVec S1x1 1 := ori z0 z1
  have b2 : IVec S1x1 32 := broadcast S1x1 126#32
  have g2 : IVec S1x1 32 := subi g b2
  have b3 : IVec S1x1 32 := broadcast S1x1 0#32
  have g3 : IVec S1x1 32 := select z2 b3 g2
  have c0 : Ideal .f32 := Scalar.ofBits .f32 0x00000000#32
  have a0 : FVec Ideal S1x1 .f32 := broadcast S1x1 c0
  have z3 : IVec S1x1 1 := cmpf .oeq a a0
  have b4 : IVec S1x1 32 := broadcast S1x1 0#32
  select z3 b4 g3

/-- The search's last three steps and the exponent that they give. -/
theorem search_last (a p : FVec Ideal S1x1 .f32) (f : IVec S1x1 32) :
    k0_pay8 (F := Ideal) a p f
      = vexpo a (vstep p (vstep p (vstep p f (broadcast S1x1 4#32)) (broadcast S1x1 2#32)) (broadcast S1x1 1#32)) := by
  rfl

/-- The number that the search is run on, from the maximum. -/
def vmul (a : FVec Ideal S1x1 .f32) : FVec Ideal S1x1 .f32 :=
  have c : Ideal .f32 := Scalar.ofBits .f32 0x37924925#32
  have v : FVec Ideal S1x1 .f32 := broadcast S1x1 c
  mulf a v

theorem vmul_apply (a : FVec Ideal S1x1 .f32) (j : S1x1.Idx) : vmul a j = a j * Exponent.factor := rfl

/-- The number that the search is run on. -/
theorem scaled_eq (s : Vec Ideal S16x14336 .bf16) : k0_pay6 (F := Ideal) s = vmul (k0_pay5 (F := Ideal) s) := by
  unfold k0_pay6
  rfl

/-- The whole search, on one-element arrays. -/
def vfield (p : FVec Ideal S1x1 .f32) : IVec S1x1 32 :=
  vstep p (vstep p (vstep p (vstep p (vstep p (vstep p (vstep p (vstep p (broadcast S1x1 0#32) (broadcast S1x1 128#32))
    (broadcast S1x1 64#32)) (broadcast S1x1 32#32)) (broadcast S1x1 16#32)) (broadcast S1x1 8#32)) (broadcast S1x1 4#32))
    (broadcast S1x1 2#32)) (broadcast S1x1 1#32)

theorem vfield_apply (p : FVec Ideal S1x1 .f32) (j : S1x1.Idx) : vfield p j = Exponent.field (p j) := by
  unfold vfield Exponent.field
  rw [vstep_apply, vstep_apply, vstep_apply, vstep_apply, vstep_apply, vstep_apply, vstep_apply, vstep_apply]
  simp only [broadcast]

theorem vexpo_apply (a : FVec Ideal S1x1 .f32) (g : IVec S1x1 32) (j : S1x1.Idx) (hg : g j = Exponent.field (a j * Exponent.factor)) :
    vexpo a g j = Exponent.expo (a j) := by
  unfold Exponent.expo
  rw [← hg]
  rfl

/-- The exponent that the last point takes from the scratch. -/
theorem expo_apply (s : Vec Ideal S16x14336 .bf16) (j : S1x1.Idx) :
    k0_pay8 (F := Ideal) (k0_pay5 s) (k0_pay6 s) (k0_pay7 s) j = Exponent.expo (k0_pay5 (F := Ideal) s j) := by
  rw [search_last, search_first, scaled_eq]
  generalize k0_pay5 (F := Ideal) s = a
  exact vexpo_apply a (vfield (vmul a)) j (by rw [vfield_apply, vmul_apply])

theorem scale_step (a p : FVec Ideal S1x1 .f32) (f : IVec S1x1 32) (j : S1x1.Idx) :
    k0_pay9 (F := Ideal) a p f j = Exponent.power (IntOp.addi (k0_pay8 (F := Ideal) a p f j) 127#32) := by
  unfold k0_pay9
  generalize k0_pay8 (F := Ideal) a p f = g
  rfl

theorem inv_step (a p : FVec Ideal S1x1 .f32) (f : IVec S1x1 32) (j : S1x1.Idx) :
    k0_pay4 (F := Ideal) (k0_pay10 (F := Ideal) a p f) j
      = Exponent.power (IntOp.addi (IntOp.subi 0#32 (k0_pay8 (F := Ideal) a p f j)) 127#32) := by
  unfold k0_pay10
  generalize k0_pay8 (F := Ideal) a p f = g
  rfl

/-- The scale that the last point writes. -/
theorem scale_apply (s : Vec Ideal S16x14336 .bf16) (j : S1x1.Idx) :
    k0_pay9 (F := Ideal) (k0_pay5 s) (k0_pay6 s) (k0_pay7 s) j = Exponent.scale (k0_pay5 (F := Ideal) s j) := by
  rw [scale_step, expo_apply]
  rfl

/-- The inverse scale that the last point writes. -/
theorem inv_apply (s : Vec Ideal S16x14336 .bf16) (j : S1x1.Idx) :
    k0_pay4 (F := Ideal) (k0_pay10 (F := Ideal) (k0_pay5 s) (k0_pay6 s) (k0_pay7 s)) j = Exponent.inv (k0_pay5 (F := Ideal) s j) := by
  rw [inv_step, expo_apply]
  rfl

end Cert.KernelIdeal.Amax

end
-- ==== Proof.Value.Amax.lean ====
module

public import proofs.«01_k».proof.Proof.Whole.KernelIdeal.Frame
public import proofs.«01_k».proof.Proof.Value.Bounds
public import proofs.«01_k».proof.Proof.Value.Search
public import Idealize.ShloMosaic.Lib.Pipeline.ValueKit
public import Idealize.ShloMosaic.Lib.Pipeline.ReadBack

/-! What the maximum call computes over the extended reals. Maxima are described by their upper bounds: a number bounds
the running maximum exactly when it bounds the absolute value of every element seen so far, so after the last point it
bounds the maximum exactly when it bounds the whole array. -/

@[expose] public section

set_option maxRecDepth 16384

noncomputable section

namespace Cert.KernelIdeal.Amax

open Idealize.ShloMosaic Idealize.ShloMosaic.TcCoe Idealize.SL.Sem
open Idealize.ShloMosaic.Pipeline (Dat)
open Cert.KernelIdeal Cert.KernelIdeal.Gen Cert.Bounds

/-- The bounds of one block's column maxima are the bounds of the block. -/
theorem block_le (D : Vec Ideal S256x14336 .bf16) (u : EReal) :
    (∀ j, k0_pay1 (F := Ideal) D j ≤ u) ↔ Bounds (s := S256x14336) D u := by
  unfold k0_pay1
  dsimp only
  refine (max_bf16_le _ _ _ _ u).trans ((forall_shapeCast _ _ u).trans ?_)
  exact bounds_shapeCast (s := S256x14336) D _ u

/-- The scratch after the first point. -/
theorem first_le (D : Vec Ideal S256x14336 .bf16) (u : EReal) :
    (∀ j, k0_pay2 (F := Ideal) D j ≤ u) ↔ Bounds (s := S256x14336) D u := by
  unfold k0_pay2
  rw [forall_shapeCast, block_le]

/-- The scratch after a later point. -/
theorem next_le (D : Vec Ideal S256x14336 .bf16) (s : Vec Ideal S16x14336 .bf16) (u : EReal) :
    (∀ j, k0_pay3 (F := Ideal) D s j ≤ u) ↔ (∀ j : S16x14336.Idx, s j ≤ u) ∧ Bounds (s := S256x14336) D u := by
  unfold k0_pay3
  rw [forall_shapeCast, ← block_le, ← forall_and]
  exact forall_congr' fun j => max_le_iff

/-- The maximum over the scratch. -/
theorem amax_le (s : Vec Ideal S16x14336 .bf16) (j : S1x1.Idx) (u : EReal) :
    k0_pay5 (F := Ideal) s j ≤ u ↔ ∀ i : S16x14336.Idx, s i ≤ u := by
  unfold k0_pay5
  dsimp only
  have h := max_f32_le (shapeCast S1x16x14336 (extf .f32 s bitsLt_bf16_f32) shapeCasts_S16x14336_S1x16x14336)
    reduces_S1x16x14336_S1 (.inl rfl) rfl u
  rw [forall_shapeCast] at h
  exact (one_le _ _ _ j u).trans h

variable (V : (c : Dev nD) → (b : Ref sig .tc) → Buf (Elt Ideal) ((c : Thread nD τ).loc b))

/-- Which block of its array each window holds at grid point `t`: the input walks down the rows, the results stay. -/
theorem idx : ∀ t : Fin cfg0.N,
    win0_0.index t = ![t.val, 0] ∧ win0_1.index t = ![0, 0] ∧ win0_2.index t = ![0, 0] :=
  (by decide +kernel : ∀ t : Fin grid0.N, _)

/-- The scratch after point `n`. -/
def scr (c : Dev nD) (n : ℕ) (h : n < cfg0.N) : Vec Ideal S16x14336 .bf16 := (outsAt0 V c n h).2.2

/-- The scratch after the first point is taken from the first block. -/
theorem scr_zero (c : Dev nD) (h : 0 < cfg0.N) : scr V c 0 h = k0_pay2 (F := Ideal) (iblk0 V c 0 ⟨0, h⟩) := by
  funext j
  unfold scr
  rw [show outsAt0 V c 0 h = outsAt0 V c (⟨0, h⟩ : Fin cfg0.N).val (⟨0, h⟩ : Fin cfg0.N).isLt from rfl,
    outsAt0_A V c ⟨0, h⟩ (by rfl) (by simp) (by simp)]
  frame_out

/-- The scratch after a later point is the scratch before it and that point's block. -/
theorem scr_succ (c : Dev nD) (n : ℕ) (h : n + 1 < cfg0.N) :
    scr V c (n + 1) h = k0_pay3 (F := Ideal) (iblk0 V c 0 ⟨n + 1, h⟩) (scr V c n (Nat.lt_of_succ_lt h)) := by
  have hN : n + 1 < 96 := lt_of_lt_of_eq h (show cfg0.N = 96 from N_0)
  funext j
  unfold scr
  rw [show outsAt0 V c (n + 1) h = outsAt0 V c (⟨n + 1, h⟩ : Fin cfg0.N).val (⟨n + 1, h⟩ : Fin cfg0.N).isLt from rfl]
  by_cases h2 : (n + 1) % 96 = 95
  · rw [outsAt0_C V c ⟨n + 1, h⟩ (by show ¬(n + 1) % 96 = 0; omega) (by show 1 ≤ n + 1; omega) h2]
    frame_out
    rw [read_unread_whole]
    rfl
  · rw [outsAt0_B V c ⟨n + 1, h⟩ (by show ¬(n + 1) % 96 = 0; omega) (by show 1 ≤ n + 1; omega) h2]
    frame_out
    rw [read_unread_whole]
    rfl

/-- A number bounds the scratch after point `n` exactly when it bounds every block so far. -/
theorem scr_le (c : Dev nD) (u : EReal) : ∀ (n : ℕ) (h : n < cfg0.N),
    (∀ j : S16x14336.Idx, scr V c n h j ≤ u)
      ↔ ∀ k (hk : k ≤ n), Bounds (s := S256x14336) (iblk0 V c 0 ⟨k, Nat.lt_of_le_of_lt hk h⟩) u
  | 0, h => by
    rw [scr_zero, first_le]
    exact ⟨fun hb k hk => by obtain rfl := Nat.le_zero.mp hk; exact hb, fun hb => hb 0 le_rfl⟩
  | n + 1, h => by
    rw [scr_succ, next_le, scr_le c u n]
    constructor
    · rintro ⟨h1, h2⟩ k hk
      rcases Nat.lt_or_ge k (n + 1) with hlt | hge
      · exact h1 k (Nat.lt_succ_iff.mp hlt)
      · obtain rfl := Nat.le_antisymm hk hge
        exact h2
    · intro hb
      exact ⟨fun k hk => hb k (Nat.le_succ_of_le hk), hb _ le_rfl⟩

theorem lt_last : 95 < cfg0.N := by rw [show cfg0.N = 96 from N_0]; decide

/-- The last point. -/
def last : Fin cfg0.N := ⟨95, lt_last⟩

/-- The maximum that the call finds. -/
def amax (c : Dev nD) : EReal := k0_pay5 (F := Ideal) (scr V c last.val last.isLt) (ix2 0 0)

/-- An element of a block is an element of the array. -/
theorem block_apply (c : Dev nD) (t : Fin cfg0.N) (a : Fin 256) (b : Fin 14336) (l : Fin 24576) (hl : l.val = 256 * t.val + a.val) :
    (show FVec Ideal S256x14336 .bf16 from iblk0 V c 0 t) (ix2 a b)
      = (show FVec Ideal S24576x14336 .bf16 from V c main_v1) (ix2 l b) := by
  blk_point [iblk0, idx t]

/-- A number bounds the maximum exactly when it bounds the absolute value of every element of the array. -/
theorem amax_le_iff (c : Dev nD) (u : EReal) :
    amax V c ≤ u ↔ Bounds (s := S24576x14336) (V c main_v1) u := by
  have hN : cfg0.N = 96 := N_0
  unfold amax
  rw [amax_le, scr_le]
  constructor
  · intro hb i
    have hi0 : (i 0).val < 24576 := (i 0).isLt
    have hq : (i 0).val / 256 ≤ 95 := by omega
    have h := hb ((i 0).val / 256) hq (ix2 (⟨(i 0).val % 256, Nat.mod_lt _ (by decide)⟩ : Fin 256) (i 1))
    have e := block_apply V c ⟨(i 0).val / 256, Nat.lt_of_le_of_lt hq lt_last⟩ ⟨(i 0).val % 256, Nat.mod_lt _ (by decide)⟩ (i 1) (i 0)
      (by show (i 0).val = 256 * ((i 0).val / 256) + (i 0).val % 256; omega)
    have ei : (ix2 (i 0) (i 1) : S24576x14336.Idx) = i := by
      funext a; match a with | ⟨0, _⟩ => rfl | ⟨1, _⟩ => rfl
    rw [ei] at e
    have e' := e.symm
    rw [show V c main_v1 i = _ from e']
    exact h
  · intro hb k hk i
    have hi0 : (i 0).val < 256 := (i 0).isLt
    have e := block_apply V c ⟨k, Nat.lt_of_le_of_lt hk lt_last⟩ (i 0) (i 1) ⟨256 * k + (i 0).val, by omega⟩ rfl
    have ei : (ix2 (i 0) (i 1) : S256x14336.Idx) = i := by
      funext a; match a with | ⟨0, _⟩ => rfl | ⟨1, _⟩ => rfl
    rw [ei] at e
    rw [show iblk0 V c 0 ⟨k, Nat.lt_of_le_of_lt hk lt_last⟩ i = _ from e]
    exact hb _

/-- A one-element index. -/
theorem one_idx (j : S1x1.Idx) : j = ix2 0 0 :=
  funext fun a => match a with
    | ⟨0, _⟩ => Subsingleton.elim (α := Fin 1) _ _
    | ⟨1, _⟩ => Subsingleton.elim (α := Fin 1) _ _

/-- What a last point writes, over the scratch that it leaves. -/
theorem outs_C (c : Dev nD) (t : Fin cfg0.N) (h0 : ¬t.val % 96 = 0) (h1 : 1 ≤ t.val) (h2 : t.val % 96 = 95) (j : S1x1.Idx) :
    (outsAt0 V c t.val t.isLt).1 j
        = Exponent.scale (k0_pay5 (F := Ideal) (k0_pay3 (F := Ideal) (iblk0 V c 0 t)
            (outsAt0 V c (t.val - 1) (Nat.lt_of_le_of_lt (Nat.sub_le _ _) t.isLt)).2.2) j)
      ∧ (outsAt0 V c t.val t.isLt).2.1 j
        = Exponent.inv (k0_pay5 (F := Ideal) (k0_pay3 (F := Ideal) (iblk0 V c 0 t)
            (outsAt0 V c (t.val - 1) (Nat.lt_of_le_of_lt (Nat.sub_le _ _) t.isLt)).2.2) j) := by
  rw [← scale_apply, ← inv_apply, outsAt0_C V c t h0 h1 h2]
  constructor
  · frame_out
    rw [read_unread_whole]
  · frame_out
    rw [read_unread_whole]

/-- What a last point writes, over the scratch after it. -/
theorem outs_scr (c : Dev nD) (t : Fin cfg0.N) (h2 : t.val % 96 = 95) (j : S1x1.Idx) :
    (outsAt0 V c t.val t.isLt).1 j = Exponent.scale (k0_pay5 (F := Ideal) (scr V c t.val t.isLt) j)
      ∧ (outsAt0 V c t.val t.isLt).2.1 j = Exponent.inv (k0_pay5 (F := Ideal) (scr V c t.val t.isLt) j) := by
  have h := outs_C V c t (by omega) (by omega) h2 j
  rcases t with ⟨n, hn⟩
  cases n with
  | zero => exact absurd (show 0 % 96 = 95 from h2) (by decide)
  | succ n =>
    have hs : scr V c (n + 1) hn = k0_pay3 (F := Ideal) (iblk0 V c 0 ⟨n + 1, hn⟩) (outsAt0 V c (n + 1 - 1) (Nat.lt_of_le_of_lt (Nat.sub_le _ _) hn)).2.2 :=
      scr_succ V c n hn
    dsimp only at h ⊢
    rw [hs]
    exact h

/-- What the last point writes: the scale and the inverse scale of the maximum. -/
theorem outs_last (c : Dev nD) (j : S1x1.Idx) :
    (outsAt0 V c last.val last.isLt).1 j = Exponent.scale (amax V c)
      ∧ (outsAt0 V c last.val last.isLt).2.1 j = Exponent.inv (amax V c) := by
  unfold amax
  rw [one_idx j]
  exact outs_scr V c last rfl _

/-- The scale array after the run. -/
theorem final1 (c : Dev nD) : (dat0 V c).arrAt 1 cfg0.N = fun _ => Exponent.scale (amax V c) := by
  refine (dat0 V c).arrAt_eq_of_after_last 1 last (by decide +kernel) _ fun j => ?_
  rw [after0_1]
  blk_simp
  exact (outs_last V c _).1

/-- The inverse-scale array after the run. -/
theorem final2 (c : Dev nD) : (dat0 V c).arrAt 2 cfg0.N = fun _ => Exponent.inv (amax V c) := by
  refine (dat0 V c).arrAt_eq_of_after_last 2 last (by decide +kernel) _ fun j => ?_
  rw [after0_2]
  blk_simp
  exact (outs_last V c _).2

end Cert.KernelIdeal.Amax

end
-- ==== Proof.Value.DwBlock.lean ====
module

public import proofs.«01_k».proof.Proof.Whole.KernelIdeal.Frame
public import Idealize.ShloMosaic.Lib.Pipeline.ValueKit

/-! What one grid point of the product call computes, element by element: the quantised block, the zero fill, one
step of the blocked product and the final scaling. -/

@[expose] public section

set_option maxRecDepth 16384

noncomputable section

namespace Cert.KernelIdeal.Block

open Idealize.ShloMosaic Idealize.ShloMosaic.TcCoe Idealize.SL.Sem
open Cert.KernelIdeal Cert.KernelIdeal.Gen

/-- The quantiser over the extended reals: clip the scaled element to the e5m2 range. -/
def clip (d s : EReal) : EReal :=
  min (Ideal.ofBits .f32 0x47600000#32) (max (Ideal.ofBits .f32 0xC7600000#32) (d * s))

/-- A block's codes, element by element. -/
theorem codes_apply (D : Vec Ideal S1024x1024 .bf16) (s : Elt Ideal .f32) (j : S1024x1024.Idx) :
    k1_pay1 D s j = clip (D j) s := by
  pointwise [k1_pay1, clip]

/-- The zero fill. -/
theorem zero_apply (j : S2048x1024.Idx) : k1_pay2 (F := Ideal) j = 0 := by
  pointwise [k1_pay2]

/-- One step of the blocked product adds the 1024 products of this step. -/
theorem step_apply (D : Vec Ideal S1024x1024 .bf16) (s : Elt Ideal .f32) (acc : Vec Ideal S2048x1024 .f32)
    (X : Vec Ideal S1024x2048 .fp8e4m3) (j : S2048x1024.Idx) :
    k1_pay3 D s acc X j = acc j + ∑ k : Fin 1024, X (ix2 k (j 0)) * clip (D (ix2 k (j 1))) s := by
  pointwise [k1_pay3, k1_pay1, clip]

/-- The last step scales the product and adds the old gradient. -/
theorem last_apply (W acc : Vec Ideal S2048x1024 .f32) (a b : Elt Ideal .f32) (j : S2048x1024.Idx) :
    k1_pay4 W acc a b j = W j + acc j * (a * b) := by
  pointwise [k1_pay4]

end Cert.KernelIdeal.Block

end
-- ==== Proof.Value.DwFinal.lean ====
module

public import proofs.«01_k».proof.Proof.Value.DwBlock

/-! What the two result arrays of the product call hold after the run, over the arrays that it stages: the
quantiser over the whole array, and the old gradient plus the 24 steps of 1024 products each as one 24576-deep product. -/

@[expose] public section

set_option maxRecDepth 16384

noncomputable section

namespace Cert.KernelIdeal.Final

open Idealize.ShloMosaic Idealize.ShloMosaic.TcCoe Idealize.SL.Sem
open Idealize.ShloMosaic.Pipeline (Dat)
open Cert.KernelIdeal Cert.KernelIdeal.Gen Cert.KernelIdeal.Block

variable (V : (c : Dev nD) → (b : Ref sig .tc) → Buf (Elt Ideal) ((c : Thread nD τ).loc b))

/-- Which block of its array each window holds at grid point `t`: the points walk the contraction steps innermost,
then the 2 row blocks, then the 14 column blocks. -/
theorem idx : ∀ t : Fin cfg1.N,
    win1_0.index t = ![0, 0] ∧ win1_1.index t = ![0, 0] ∧ win1_2.index t = ![0, 0]
    ∧ win1_3.index t = ![t.val % 24, t.val / 24 % 2] ∧ win1_4.index t = ![t.val % 24, t.val / 48]
    ∧ win1_5.index t = ![t.val / 24 % 2, t.val / 48] ∧ win1_6.index t = ![t.val / 24 % 2, t.val / 48]
    ∧ win1_7.index t = ![t.val % 24, t.val / 48] ∧ t.val / 48 < 14 :=
  (by decide +kernel : ∀ t : Fin grid1.N, _)

/-- The single word of a one-element array. -/
theorem ld_word (X : Vec Ideal S1x1 .f32) (h : 0 < S1x1.numel) :
    View.ld X (Rect.unit (s := S1x1) ![0, 0] ![1, 1] inb_S1x1_S1x1_0_0) (Shape.Idx.first h) = X (ix2 0 0) := by
  exact congrArg X (funext fun a => match a with
    | ⟨0, _⟩ => Subsingleton.elim (α := Fin 1) _ _
    | ⟨1, _⟩ => Subsingleton.elim (α := Fin 1) _ _)

/-- The codes array after the run is the quantiser over the whole array, with the inverse scale as staged. -/
theorem final7 (c : Dev nD) : (dat1 V c).arrAt 7 cfg1.N
    = fun j => clip ((show FVec Ideal S24576x14336 .bf16 from V c main_v1) j)
        ((show FVec Ideal S1x1 .f32 from V c main_v2_1) (ix2 0 0)) := by
  refine (dat1 V c).arrAt_eq_of_covers 7 _ (by decide +kernel) fun t hf y => ?_
  blk_simp
  rw [after1_7]
  have hcase : (t.val % 24 = 0 ∧ ¬t.val % 24 = 23) ∨ (¬t.val % 24 = 0 ∧ ¬t.val % 24 = 23) ∨ (¬t.val % 24 = 0 ∧ t.val % 24 = 23) := by omega
  rcases hcase with ⟨h0, h1⟩ | ⟨h0, h1⟩ | ⟨h0, h1⟩
  · rw [outsAt1_A V c t h0 h1]
    frame_out
    rw [codes_apply, ld_word]
    blk_point [iblk1, idx t]
  · rw [outsAt1_B V c t h0 h1]
    frame_out
    rw [codes_apply, ld_word]
    blk_point [iblk1, idx t]
  · rw [outsAt1_C V c t h0 h1]
    frame_out
    rw [codes_apply, ld_word]
    blk_point [iblk1, idx t]

/-- The products that step `t` adds to element `j` of its block. -/
def part (c : Dev nD) (t : Fin cfg1.N) (j : S2048x1024.Idx) : EReal :=
  ∑ k : Fin 1024, (show FVec Ideal S1024x2048 .fp8e4m3 from iblk1 V c 3 t) (ix2 k (j 0))
    * clip ((show FVec Ideal S1024x1024 .bf16 from iblk1 V c 4 t) (ix2 k (j 1)))
        ((show FVec Ideal S1x1 .f32 from iblk1 V c 2 t) (ix2 0 0))

/-- The running product after point `n`: what the block holds, at a last step before its scaling. -/
def acc (c : Dev nD) (n : ℕ) (h : n < cfg1.N) (j : S2048x1024.Idx) : EReal :=
  if n % 24 = 23 then
    (outsAt1 V c (n - 1) (Nat.lt_of_le_of_lt (Nat.sub_le _ _) h)).1 j + part V c ⟨n, h⟩ j
  else (outsAt1 V c n h).1 j

/-- A first step starts from zero. -/
theorem acc_reset (c : Dev nD) (t : Fin cfg1.N) (h : t.val % 24 = 0) (j : S2048x1024.Idx) :
    acc V c t.val t.isLt j = 0 + part V c t j := by
  have h1 : ¬t.val % 24 = 23 := by omega
  unfold acc
  rw [if_neg h1, outsAt1_A V c t h h1]
  frame_out
  rw [step_apply, zero_apply, ld_word]
  rfl

/-- A later step adds to what the point before left. -/
theorem acc_step (c : Dev nD) (t : Fin cfg1.N) (h : ¬t.val % 24 = 0) (j : S2048x1024.Idx) :
    acc V c t.val t.isLt j
      = acc V c (t.val - 1) (Nat.lt_of_le_of_lt (Nat.sub_le _ _) t.isLt) j + part V c t j := by
  have hp : ¬(t.val - 1) % 24 = 23 := by omega
  by_cases h1 : t.val % 24 = 23
  · unfold acc
    rw [if_pos h1, if_neg hp]
  · unfold acc
    rw [if_neg h1, if_neg hp, outsAt1_B V c t h h1]
    frame_out
    rw [step_apply, ld_word]
    rfl

/-- At a last step the block is the old gradient plus the scaled running product. -/
theorem outs_last (c : Dev nD) (t : Fin cfg1.N) (h : t.val % 24 = 23) (j : S2048x1024.Idx) :
    (outsAt1 V c t.val t.isLt).1 j
      = (show FVec Ideal S2048x1024 .f32 from iblk1 V c 5 t) j + acc V c t.val t.isLt j
        * ((show FVec Ideal S1x1 .f32 from iblk1 V c 0 t) (ix2 0 0)
          * (show FVec Ideal S1x1 .f32 from iblk1 V c 1 t) (ix2 0 0)) := by
  have h0 : ¬t.val % 24 = 0 := by omega
  unfold acc
  rw [if_pos h, outsAt1_C V c t h0 h]
  frame_out
  rw [last_apply, step_apply]
  rw [ld_word, ld_word, ld_word]
  rfl

/-- The gradient array after the run: the old gradient plus the scaled 24576-deep product. -/
theorem final6 (c : Dev nD) : (dat1 V c).arrAt 6 cfg1.N
    = fun j => (show FVec Ideal S4096x14336 .f32 from V c main_arg3) j
        + (∑ l : Fin 24576, (show FVec Ideal S24576x4096 .fp8e4m3 from V c main_v0) (ix2 l (j 0))
          * clip ((show FVec Ideal S24576x14336 .bf16 from V c main_v1) (ix2 l (j 1)))
              ((show FVec Ideal S1x1 .f32 from V c main_v2_1) (ix2 0 0)))
          * ((show FVec Ideal S1x1 .f32 from V c main_v3) (ix2 0 0)
            * (show FVec Ideal S1x1 .f32 from V c main_v2_0) (ix2 0 0)) := by
  refine (dat1 V c).arrAt_eq_of_covers 6 _ (by decide +kernel) fun t hf y => ?_
  have hm : t.val % 24 = 23 := (flush1_6 t).mp hf
  blk_simp
  rw [after1_6, outs_last V c t hm,
    Pipeline.eq_sum_fin_of_reset_step_apply_of_flush (fun n h => acc V c n h) 24 (fun _ => 0) (part V c)
      (acc_reset V c) (acc_step V c) t hm _, zero_add]
  have hs : ∀ s : Fin 24, (24 * (t.val / 24) + s.val) % 24 = s.val := by intro s; omega
  have e : (∑ s : Fin 24, part V c ⟨24 * (t.val / 24) + s.val, Pipeline.run_point_lt_of_flush t hm s⟩ y)
      = ∑ l : Fin 24576, (show FVec Ideal S24576x4096 .fp8e4m3 from V c main_v0) (ix2 l ((((cfg1.win 6).blk t).view.emb y) 0))
          * clip ((show FVec Ideal S24576x14336 .bf16 from V c main_v1) (ix2 l ((((cfg1.win 6).blk t).view.emb y) 1)))
            ((show FVec Ideal S1x1 .f32 from V c main_v2_1) (ix2 0 0)) := by
    unfold part
    refine Fin.sum_mul_add_congr fun s k hl => ?_
    blk_point [iblk1, idx t, idx ⟨_, Pipeline.run_point_lt_of_flush t hm s⟩]
  rw [e]
  blk_point [iblk1, idx t]

end Cert.KernelIdeal.Final

end
-- ==== Proof.Value.Result.lean ====
module

public import proofs.«01_k».proof.Proof.Value.Amax
public import proofs.«01_k».proof.Proof.Value.DwFinal
public import Idealize.ShloMosaic.Lib.Claim

/-! The kernel's three results over its arguments: the two calls put together. -/

@[expose] public section

set_option maxRecDepth 16384

noncomputable section

namespace Cert.KernelIdeal.Result

open Idealize.ShloMosaic Idealize.ShloMosaic.TcCoe Idealize.SL.Sem
open Cert.KernelIdeal Cert.KernelIdeal.Gen Cert.KernelIdeal.Block

/-- The codes: the quantiser over the whole array, by an inverse scale. -/
def codes (d : FVec Ideal S24576x14336 .bf16) (i : EReal) : FVec Ideal S24576x14336 .fp8e5m2 := fun j => clip (d j) i

/-- The gradient: the old one plus the scaled product of the operand and the codes. -/
def grad (x : FVec Ideal S24576x4096 .fp8e4m3) (d : FVec Ideal S24576x14336 .bf16) (w : FVec Ideal S4096x14336 .f32)
    (xs : FVec Ideal S1x1 .f32) (s i : EReal) : FVec Ideal S4096x14336 .f32 := fun j =>
  w j + (∑ l : Fin 24576, x (ix2 l (j 0)) * clip (d (ix2 l (j 1))) i) * (xs (ix2 0 0) * s)

variable (m : (ℓ : Loc nD τ sig) → Buf (Elt Ideal) ℓ) (ρ : Dev nD → PrngReg)

/-- The arrays that the host code reshapes before the calls. -/
theorem entry_x (c : Dev nD) : V1 m ρ c main_v0
    = shapeCast S24576x4096 (m ((c : Thread nD τ).loc main_arg0)) shapeCasts_S4x6144x4096_S24576x4096 := by
  show StableHlo.after hostOps0 (W0 m ρ c) (Proc.devRef .tc main_v0) = _
  entry_read; try rfl
theorem entry_dy (c : Dev nD) : V1 m ρ c main_v1
    = shapeCast S24576x14336 (m ((c : Thread nD τ).loc main_arg2)) shapeCasts_S4x6144x14336_S24576x14336 := by
  show StableHlo.after hostOps0 (W0 m ρ c) (Proc.devRef .tc main_v1) = _
  entry_read; try rfl
theorem entry_xs (c : Dev nD) : V3 m ρ c main_v3
    = shapeCast S1x1 (m ((c : Thread nD τ).loc main_arg1)) shapeCasts_S_S1x1 := by
  have h : V3 m ρ c main_v3 = shapeCast S1x1 (W2 m ρ c (Proc.devRef .tc main_arg1)) shapeCasts_S_S1x1 := by
    show StableHlo.after hostOps1 (W2 m ρ c) (Proc.devRef .tc main_v3) = _
    entry_read; try rfl
  rw [h, W2_args m ρ c main_arg1 (by decide)]

/-- The second call reads the reshaped arrays that the first call left alone. -/
theorem second_x (c : Dev nD) : V3 m ρ c main_v0 = V1 m ρ c main_v0 :=
  (W3_of m ρ c main_v0 (by decide)).trans (W2_of m ρ c main_v0 (by decide +kernel))
theorem second_dy (c : Dev nD) : V3 m ρ c main_v1 = V1 m ρ c main_v1 :=
  (W3_of m ρ c main_v1 (by decide)).trans (W2_of m ρ c main_v1 (by decide +kernel))
theorem second_dw (c : Dev nD) : V3 m ρ c main_arg3 = m ((c : Thread nD τ).loc main_arg3) :=
  W3_args m ρ c main_arg3 (by decide)

/-- The maximum that the first call finds. -/
def amax (c : Dev nD) : EReal := Amax.amax (V1 m ρ) c

/-- The second call reads the scale and the inverse scale that the first call wrote. -/
theorem second_scale (c : Dev nD) : V3 m ρ c main_v2_0 = fun _ => Exponent.scale (amax m ρ c) :=
  (W3_of m ρ c main_v2_0 (by decide)).trans ((W2_arr m ρ c 1).trans (Amax.final1 (V1 m ρ) c))
theorem second_inv (c : Dev nD) : V3 m ρ c main_v2_1 = fun _ => Exponent.inv (amax m ρ c) :=
  (W3_of m ρ c main_v2_1 (by decide)).trans ((W2_arr m ρ c 2).trans (Amax.final2 (V1 m ρ) c))

/-- The scale that the kernel returns. -/
theorem result_scale (c : Dev nD) : W4 m ρ c (Proc.devRef .tc main_v2_0) = fun _ => Exponent.scale (amax m ρ c) :=
  (W4_of m ρ c main_v2_0 (by decide +kernel)).trans (second_scale m ρ c)

/-- The codes that the kernel returns. -/
theorem result_codes (c : Dev nD) : W4 m ρ c (Proc.devRef .tc main_v4_1)
    = codes (shapeCast S24576x14336 (m ((c : Thread nD τ).loc main_arg2)) shapeCasts_S4x6144x14336_S24576x14336)
        (Exponent.inv (amax m ρ c)) := by
  refine (W4_arr m ρ c 7).trans ((Final.final7 (V3 m ρ) c).trans ?_)
  rw [second_dy, entry_dy, second_inv]
  rfl

/-- The gradient that the kernel returns. -/
theorem result_grad (c : Dev nD) : W4 m ρ c (Proc.devRef .tc main_v4_0)
    = grad (shapeCast S24576x4096 (m ((c : Thread nD τ).loc main_arg0)) shapeCasts_S4x6144x4096_S24576x4096)
        (shapeCast S24576x14336 (m ((c : Thread nD τ).loc main_arg2)) shapeCasts_S4x6144x14336_S24576x14336)
        (m ((c : Thread nD τ).loc main_arg3))
        (shapeCast S1x1 (m ((c : Thread nD τ).loc main_arg1)) shapeCasts_S_S1x1)
        (Exponent.scale (amax m ρ c)) (Exponent.inv (amax m ρ c)) := by
  refine (W4_arr m ρ c 6).trans ((Final.final6 (V3 m ρ) c).trans ?_)
  rw [second_x, entry_x, second_dy, entry_dy, second_dw, entry_xs, second_scale, second_inv]
  rfl

/-- The maximum's bounds are the bounds of the gradient that comes in. -/
theorem amax_le (c : Dev nD) (u : EReal) :
    amax m ρ c ≤ u ↔ Bounds.Bounds (s := S4x6144x14336) (m ((c : Thread nD τ).loc main_arg2)) u := by
  refine (Amax.amax_le_iff (V1 m ρ) c u).trans ?_
  rw [entry_dy]
  exact Bounds.bounds_shapeCast (s := S4x6144x14336) _ _ u

end Cert.KernelIdeal.Result

end
-- ==== Proof.Value.Reference.lean ====
module

public import proofs.«01_k».proof.Proof.Gen.ReferenceIdeal.Value
public import proofs.«01_k».proof.Proof.Value.DwBlock
public import proofs.«01_k».proof.Proof.Value.Bounds
public import proofs.«01_k».proof.Proof.Value.Exponent
public import Idealize.ShloMosaic.Lib.Pipeline.ValueKit

/-! What the reference computes over the extended reals: the maximum by its upper bounds, the scale and the codes from
the exponent of that maximum, and the gradient as the old one plus the scaled product. -/

@[expose] public section

set_option maxRecDepth 16384

noncomputable section

namespace Cert.ReferenceIdeal.Final

open Idealize.ShloMosaic Idealize.ShloMosaic.TcCoe Idealize.SL.Sem
open Idealize.ShloMosaic.Pipeline (Dat)
open Cert.ReferenceIdeal Cert.ReferenceIdeal.Gen Cert.Bounds
open Cert.KernelIdeal.Block (clip)

/-- The maximum of the absolute values, on a one-element array. -/
def vamax (D : Vec Ideal S24576x14336 .bf16) : FVec Ideal S1x1 .f32 :=
  have v3 : FVec Ideal S24576x14336 .f32 := absf (k0_pay2 D)
  have v4 : FVec Ideal S1x24576x14336 .f32 := shapeCast S1x24576x14336 v3 shapeCasts_S24576x14336_S1x24576x14336
  have v5 : FVec Ideal S1 .f32 := multiReduction .maximumf [1, 2] S1 v4 0xFF800000#32 reduces_S1x24576x14336_S1 (.inl rfl) rfl
  have v6 : FVec Ideal S1x1x1 .f32 := shapeCast S1x1x1 v5 shapeCasts_S1_S1x1x1
  have v7 : Ideal .f32 := extractAt ![0, 0, 0] v6 inpos_S1x1x1_p0_0_0
  broadcast S1x1 v7

/-- The exponent from the maximum, on one-element arrays. -/
def vexpo (v8 : FVec Ideal S1x1 .f32) : FVec Ideal S1x1 .f32 :=
  have cst_1 : Ideal .f32 := Scalar.ofBits .f32 0x37924925#32
  have v9 : FVec Ideal S1x1 .f32 := broadcast S1x1 cst_1
  have v10 : FVec Ideal S1x1 .f32 := mulf v8 v9
  have v11 : FVec Ideal S1x1 .f32 := log v10
  have cst_2 : Ideal .f32 := Named.named κ "ln_2" 0x3F317218#32
  have v12 : FVec Ideal S1x1 .f32 := broadcast S1x1 cst_2
  have v13 : FVec Ideal S1x1 .f32 := divf v11 v12
  have v14 : FVec Ideal S1x1 .f32 := floor v13
  have cst_3 : Ideal .f32 := Scalar.ofBits .f32 0x3F800000#32
  have v15 : FVec Ideal S1x1 .f32 := broadcast S1x1 cst_3
  have v16 : FVec Ideal S1x1 .f32 := addf v14 v15
  have cst_4 : Ideal .f32 := Scalar.ofBits .f32 0x00000000#32
  have v17 : FVec Ideal S1x1 .f32 := broadcast S1x1 cst_4
  have v18 : IVec S1x1 1 := cmpf .oeq v8 v17
  have cst_5 : Ideal .f32 := Scalar.ofBits .f32 0x7F800000#32
  have v19 : FVec Ideal S1x1 .f32 := broadcast S1x1 cst_5
  have v20 : IVec S1x1 1 := cmpf .oeq v8 v19
  have v21 : IVec S1x1 1 := ori v18 v20
  have cst_6 : Ideal .f32 := Scalar.ofBits .f32 0x00000000#32
  have v22 : FVec Ideal S1x1 .f32 := broadcast S1x1 cst_6
  select v21 v22 v16

/-- The reference's exponent is taken from its maximum. -/
theorem pay3_eq (D : Vec Ideal S24576x14336 .bf16) : k0_pay3 (F := Ideal) D = vexpo (vamax D) := by
  rfl

/-- The named constant over the extended reals is the logarithm of two. -/
theorem ln_2 : Named.named (F := Ideal) κ "ln_2" (φ := .f32) 0x3F317218#32 = ((Real.log 2 : ℝ) : EReal) :=
  IdealRules.named_const.ideal_named_scalar _ _ _ _ rfl

/-- The exponent, element by element. -/
theorem vexpo_apply (a : FVec Ideal S1x1 .f32) (j : S1x1.Idx) : vexpo a j = Exponent.refExpo (a j) := by
  unfold Exponent.refExpo
  rw [← ln_2]
  rfl

/-- A number bounds the maximum exactly when it bounds the absolute value of every element. -/
theorem vamax_le (D : Vec Ideal S24576x14336 .bf16) (j : S1x1.Idx) (u : EReal) :
    vamax D j ≤ u ↔ Bounds (s := S24576x14336) D u := by
  unfold vamax k0_pay2
  dsimp only
  refine (one_le _ _ _ j u).trans ((max_f32_le _ _ _ _ u).trans ((forall_shapeCast _ _ u).trans ?_))
  exact bounds_shapeCast (s := S24576x14336) D _ u

/-- The maximum. -/
def amax (D : Vec Ideal S24576x14336 .bf16) : EReal := vamax D (ix2 0 0)

theorem amax_le (D : Vec Ideal S24576x14336 .bf16) (u : EReal) : amax D ≤ u ↔ Bounds (s := S24576x14336) D u :=
  vamax_le D _ u

/-- A one-element index. -/
theorem one_idx (j : S1x1.Idx) : j = ix2 0 0 :=
  funext fun a => match a with
    | ⟨0, _⟩ => Subsingleton.elim (α := Fin 1) _ _
    | ⟨1, _⟩ => Subsingleton.elim (α := Fin 1) _ _

/-- The exponent, from the maximum. -/
theorem expo_apply (D : Vec Ideal S24576x14336 .bf16) (j : S1x1.Idx) :
    k0_pay3 (F := Ideal) D j = Exponent.refExpo (amax D) := by
  rw [pay3_eq, vexpo_apply, one_idx j]
  rfl

/-- The scale from the exponent. -/
theorem pay4_eq (D : Vec Ideal S24576x14336 .bf16) : k0_pay4 (F := Ideal) D = exp2 (k0_pay3 (F := Ideal) D) := rfl

theorem exp2_step (e : FVec Ideal S1x1 .f32) (j : S1x1.Idx) : exp2 e j = Ideal.exp2 (e j) := rfl

/-- The reference's scale. -/
theorem scale_apply (D : Vec Ideal S24576x14336 .bf16) (j : S1x1.Idx) :
    k0_pay4 (F := Ideal) D j = Ideal.exp2 (Exponent.refExpo (amax D)) :=
  (congrFun (pay4_eq D) j).trans ((exp2_step _ j).trans (congrArg Ideal.exp2 (expo_apply D j)))

/-- The codes from the exponent. -/
def vcodes (D : Vec Ideal S24576x14336 .bf16) (e : FVec Ideal S1x1 .f32) : FVec Ideal S24576x14336 .fp8e5m2 :=
  have cst_7 : Ideal .f32 := Scalar.ofBits .f32 0x00000000#32
  have v25 : FVec Ideal S1x1 .f32 := broadcast S1x1 cst_7
  have v26 : FVec Ideal S1x1 .f32 := subf v25 e
  have v27 : FVec Ideal S1x1 .f32 := exp2 v26
  have v28 : FVec Ideal S24576x14336 .f32 := broadcastTo S24576x14336 v27 broadcasts_S1x1_S24576x14336
  have v29 : FVec Ideal S24576x14336 .f32 := mulf (k0_pay2 D) v28
  have cst_8 : Ideal .f32 := Scalar.ofBits .f32 0xC7600000#32
  have cst_9 : Ideal .f32 := Scalar.ofBits .f32 0x47600000#32
  have v30 : FVec Ideal S24576x14336 .f32 := broadcast S24576x14336 cst_8
  have v31 : FVec Ideal S24576x14336 .f32 := maximumf v30 v29
  have v32 : FVec Ideal S24576x14336 .f32 := broadcast S24576x14336 cst_9
  have v33 : FVec Ideal S24576x14336 .f32 := minimumf v32 v31
  truncf .fp8e5m2 v33 bitsLt_fp8e5m2_f32

theorem pay5_eq (D : Vec Ideal S24576x14336 .bf16) : k0_pay5 (F := Ideal) D = vcodes D (k0_pay3 (F := Ideal) D) := rfl

theorem vcodes_apply (D : Vec Ideal S24576x14336 .bf16) (e : FVec Ideal S1x1 .f32) (j : S24576x14336.Idx) :
    vcodes D e j = clip (D j) (Ideal.exp2 (Ideal.ofBits .f32 0x00000000#32 - e (ix2 0 0))) := by
  pointwise [vcodes, k0_pay2, clip]
  rfl

/-- The reference's codes, element by element. -/
theorem codes_apply (D : Vec Ideal S24576x14336 .bf16) (j : S24576x14336.Idx) :
    k0_pay5 (F := Ideal) D j
      = clip (D j) (Ideal.exp2 (Ideal.ofBits .f32 0x00000000#32 - Exponent.refExpo (amax D))) := by
  rw [pay5_eq, vcodes_apply, expo_apply]

/-- The reference's product, element by element. -/
theorem product_apply (D : Vec Ideal S24576x14336 .bf16) (X : Vec Ideal S24576x4096 .fp8e4m3) (j : S4096x14336.Idx) :
    k0_pay6 (F := Ideal) D X j
      = ∑ l : Fin 24576, X (ix2 l (j 0)) * k0_pay5 (F := Ideal) D (ix2 l (j 1)) := by
  unfold k0_pay6
  generalize k0_pay5 (F := Ideal) D = q
  pointwise []

/-- The reference's gradient, element by element. -/
theorem dw_apply (s : FVec Ideal S1x1 .f32) (p : FVec Ideal S4096x14336 .f32) (W : Vec Ideal S4096x14336 .f32)
    (a : FVec Ideal S1x1 .f32) (j : S4096x14336.Idx) :
    k0_pay1 (F := Ideal) s p W (k0_pay7 (F := Ideal) a) j = W j + p j * (a (ix2 0 0) * s (ix2 0 0)) := by
  pointwise [k0_pay1, k0_pay7]

variable (m : (ℓ : Loc nD τ sig) → Buf (Elt Ideal) ℓ)

/-- The reference has one grid point and every block is its whole array. -/
theorem idx : win0_0.index t0_0 = ![0, 0] ∧ win0_1.index t0_0 = ![0, 0] ∧ win0_2.index t0_0 = ![0, 0]
    ∧ win0_3.index t0_0 = ![0, 0] ∧ win0_4.index t0_0 = ![0, 0] ∧ win0_5.index t0_0 = ![0, 0]
    ∧ win0_6.index t0_0 = ![0, 0] := by
  decide +kernel

/-- The block of the gradient that comes in is its whole array. -/
theorem blk2 (c : Dev nD) : iblk m c 2 t0_0 = V m c main_v2 := by
  funext j
  blk_point [iblk, idx]

/-- The other blocks are their whole arrays. -/
theorem blk0 (c : Dev nD) : iblk m c 0 t0_0 = V m c main_v0 := by
  funext j
  blk_point [iblk, idx]
theorem blk1 (c : Dev nD) : iblk m c 1 t0_0 = V m c main_v1 := by
  funext j
  blk_point [iblk, idx]
theorem blk3 (c : Dev nD) : iblk m c 3 t0_0 = V m c main_arg3 := by
  funext j
  blk_point [iblk, idx]

/-- The scale, over the blocks. -/
theorem pay8_apply (x0 : Vec Ideal S1x1 .f32) (x1 : Vec Ideal S24576x4096 .fp8e4m3) (x2 : Vec Ideal S24576x14336 .bf16)
    (x3 : Vec Ideal S4096x14336 .f32) (j : S1x1.Idx) :
    k0_pay8 (F := Ideal) x0 x1 x2 x3 j = Ideal.exp2 (Exponent.refExpo (amax x2)) := by
  have h : View.ld x2 r0_0 = x2 := View.ld_unit_zero (funext fun a => by match a with | ⟨0, _⟩ => rfl | ⟨1, _⟩ => rfl) _ x2
  have e : k0_pay8 (F := Ideal) x0 x1 x2 x3 = k0_pay4 (F := Ideal) (View.ld x2 r0_0) := rfl
  rw [e, scale_apply, h]

/-- The reference's scale array. -/
theorem final6 (c : Dev nD) : (dats m 0 c).arrAt 6 (cfgs 0).N
    = fun _ => Ideal.exp2 (Exponent.refExpo (amax (V m c main_v2))) := by
  refine (dats m 0 c).arrAt_eq_of_after_last 6 t0_0 (by decide +kernel) _ fun j => ?_
  blk_simp
  rw [after0_6]
  frame_out
  rw [pay8_apply, blk2]

/-- The reference's codes array. -/
theorem final5 (c : Dev nD) : (dats m 0 c).arrAt 5 (cfgs 0).N
    = fun j => clip ((show FVec Ideal S24576x14336 .bf16 from V m c main_v2) j)
        (Ideal.exp2 (Ideal.ofBits .f32 0x00000000#32 - Exponent.refExpo (amax (V m c main_v2)))) := by
  refine (dats m 0 c).arrAt_eq_of_after_last 5 t0_0 (by decide +kernel) _ fun j => ?_
  blk_simp
  rw [after0_5]
  frame_out
  rw [codes_apply, blk2]

/-- The reference's gradient array. -/
theorem final4 (c : Dev nD) : (dats m 0 c).arrAt 4 (cfgs 0).N
    = fun j => (show FVec Ideal S4096x14336 .f32 from V m c main_arg3) j
        + (∑ l : Fin 24576, (show FVec Ideal S24576x4096 .fp8e4m3 from V m c main_v1) (ix2 l (j 0))
          * clip ((show FVec Ideal S24576x14336 .bf16 from V m c main_v2) (ix2 l (j 1)))
              (Ideal.exp2 (Ideal.ofBits .f32 0x00000000#32 - Exponent.refExpo (amax (V m c main_v2)))))
          * ((show FVec Ideal S1x1 .f32 from V m c main_v0) (ix2 0 0)
            * Ideal.exp2 (Exponent.refExpo (amax (V m c main_v2)))) := by
  refine (dats m 0 c).arrAt_eq_of_after_last 4 t0_0 (by decide +kernel) _ fun j => ?_
  blk_simp
  rw [after0_4]
  frame_out
  rw [dw_apply, product_apply, pay8_apply, blk0, blk1, blk2, blk3]
  simp only [codes_apply]

end Cert.ReferenceIdeal.Final

end
-- ==== Proof.Value.Range.lean ====
module

public import proofs.«01_k».proof.Proof.Gen.Pre_in_range
public import proofs.«01_k».proof.Proof.Value.Bounds
public import proofs.«01_k».proof.Proof.Value.Exponent

/-! What the precondition says: the maximum of the absolute values is zero, infinite, or such that the scale and its
inverse are normal f32 numbers. -/

@[expose] public section

set_option maxRecDepth 16384

noncomputable section

namespace Cert.Pre_in_range

open Idealize.ShloMosaic Cert.Bounds Cert.Pre_in_range.Facts

/-- The predicate's bit, from the maximum. -/
def bit (a : EReal) : BitVec 1 :=
  IntOp.ori (IntOp.ori (Ideal.cmp .oeq a (Ideal.ofBits .f32 0x00000000#32)) (Ideal.cmp .oeq a (Ideal.ofBits .f32 0x7F800000#32)))
    (IntOp.andi (Ideal.cmp .oge (a * Exponent.factor) (Ideal.ofBits .f32 0x00800000#32))
      (Ideal.cmp .olt (a * Exponent.factor) (Ideal.ofBits .f32 0x7E800000#32)))

/-- The predicate's bit is set only in range. -/
theorem inRange_of_bit (a : EReal) (h : bit a = 1#1) : Exponent.InRange a := by
  unfold bit at h
  by_cases h1 : a = Ideal.ofBits .f32 0x00000000#32
  · exact .inl h1
  have h1' : ¬a = 0 := fun e => h1 (e.trans Ideal.ofBits_zero_f32.symm)
  by_cases h2 : a = Ideal.ofBits .f32 0x7F800000#32
  · exact .inr (.inl h2)
  by_cases h3 : Ideal.ofBits .f32 0x00800000#32 ≤ a * Exponent.factor
  · by_cases h4 : a * Exponent.factor < Ideal.ofBits .f32 0x7E800000#32
    · exact .inr (.inr ⟨h3, h4⟩)
    · simp [Ideal.cmp, h1', h2, h3, h4, IntOp.ori, IntOp.andi] at h
  · simp [Ideal.cmp, h1', h2, h3, IntOp.ori, IntOp.andi] at h

/-- The maximum that the predicate takes. -/
def vmax (dy : FVec Ideal S4x6144x14336 .bf16) : FVec Ideal S_ .f32 :=
  Host.reduce FloatOps.maximumf (Host.absf (extf .f32 dy bitsLt_bf16_f32)) (constant S_ .f32 0xFF800000#32)
    reducesTo_S4x6144x14336_S_d0_1_2 h_S_

/-- The predicate, from the maximum, on one-element arrays. -/
def vbit (main_v2 : FVec Ideal S_ .f32) : IVec S_ 1 :=
  let main_cst_0 : FVec Ideal S_ .f32 := constant S_ .f32 0x37924925#32
  let main_v3 : FVec Ideal S_ .f32 := mulf main_v2 main_cst_0
  let main_cst_1 : FVec Ideal S_ .f32 := constant S_ .f32 0x00000000#32
  let main_v4 : IVec S_ 1 := cmpf .oeq main_v2 main_cst_1
  let main_cst_2 : FVec Ideal S_ .f32 := constant S_ .f32 0x7F800000#32
  let main_v5 : IVec S_ 1 := cmpf .oeq main_v2 main_cst_2
  let main_v6 : IVec S_ 1 := ori main_v4 main_v5
  let main_cst_3 : FVec Ideal S_ .f32 := constant S_ .f32 0x00800000#32
  let main_v7 : IVec S_ 1 := cmpf .oge main_v3 main_cst_3
  let main_cst_4 : FVec Ideal S_ .f32 := constant S_ .f32 0x7E800000#32
  let main_v8 : IVec S_ 1 := cmpf .olt main_v3 main_cst_4
  let main_v9 : IVec S_ 1 := andi main_v7 main_v8
  ori main_v6 main_v9

theorem fn_eq (x : FVec Ideal S4x6144x4096 .fp8e4m3) (xs : FVec Ideal S_ .f32) (dy : FVec Ideal S4x6144x14336 .bf16)
    (dw : FVec Ideal S4096x14336 .f32) : fn (F := Ideal) x xs dy dw = vbit (vmax dy) := rfl

theorem vbit_apply (a : FVec Ideal S_ .f32) (j : S_.Idx) : vbit a j = bit (a j) := rfl

/-- A number bounds the maximum exactly when it bounds the absolute value of every element. -/
theorem vmax_le (dy : FVec Ideal S4x6144x14336 .bf16) (j : S_.Idx) (u : EReal) :
    vmax dy j ≤ u ↔ Bounds (s := S4x6144x14336) dy u := by
  unfold vmax
  refine Iff.trans ⟨fun hb k => ?_, fun hb => hb j⟩ (host_max_le _ _ (funext fun _ => bot_f32) _ _ u)
  have e : k = j := funext fun a => a.elim0
  rw [e]
  exact hb

/-- The precondition, at any number that has the maximum's bounds. -/
theorem inRange (x : FVec Ideal S4x6144x4096 .fp8e4m3) (xs : FVec Ideal S_ .f32) (dy : FVec Ideal S4x6144x14336 .bf16)
    (dw : FVec Ideal S4096x14336 .f32) (h : fn (F := Ideal) x xs dy dw = fun _ => 1#1) (a : EReal)
    (ha : ∀ u, a ≤ u ↔ Bounds (s := S4x6144x14336) dy u) : Exponent.InRange a := by
  have hj : bit (vmax dy (fun i => i.elim0)) = 1#1 := by
    rw [← vbit_apply, ← fn_eq x xs dy dw, h]
  have e : a = vmax dy (fun i => i.elim0) := eq_of_forall_ge_iff fun u => (ha u).trans (vmax_le dy _ u).symm
  rw [e]
  exact inRange_of_bit _ hj

end Cert.Pre_in_range

end
-- ==== Proof.Value.Claim.lean ====
module

public import proofs.«01_k».proof.Defs
public import proofs.«01_k».proof.Proof.Value.Result
public import proofs.«01_k».proof.Proof.Value.Reference
public import proofs.«01_k».proof.Proof.Value.Range

/-! The kernel and the reference compute the same gradient, codes and scale over the extended reals. -/

@[expose] public section

set_option maxRecDepth 16384

noncomputable section

namespace Cert.ReferenceIdeal.Result

open Idealize.ShloMosaic Idealize.ShloMosaic.TcCoe Idealize.SL.Sem
open Cert.ReferenceIdeal Cert.ReferenceIdeal.Gen
open Cert.KernelIdeal.Result (codes grad)

variable (m : (ℓ : Loc nD τ sig) → Buf (Elt Ideal) ℓ)

/-- The arrays that the host code reshapes before the reference's call. -/
theorem entry_xs (c : Dev nD) : V m c main_v0
    = shapeCast S1x1 (m ((c : Thread nD τ).loc main_arg1)) shapeCasts_S_S1x1 := by
  entry_read; try rfl
theorem entry_x (c : Dev nD) : V m c main_v1
    = shapeCast S24576x4096 (m ((c : Thread nD τ).loc main_arg0)) shapeCasts_S4x6144x4096_S24576x4096 := by
  entry_read; try rfl
theorem entry_dy (c : Dev nD) : V m c main_v2
    = shapeCast S24576x14336 (m ((c : Thread nD τ).loc main_arg2)) shapeCasts_S4x6144x14336_S24576x14336 := by
  entry_read; try rfl

/-- The maximum that the reference takes. -/
def amax (c : Dev nD) : EReal :=
  Final.amax (shapeCast S24576x14336 (m ((c : Thread nD τ).loc main_arg2)) shapeCasts_S4x6144x14336_S24576x14336)

/-- The scale that the reference returns. -/
theorem result_scale (c : Dev nD) : (dats m 0 c).arrAt 6 cfg0.N
    = fun _ => Ideal.exp2 (Exponent.refExpo (amax m c)) := by
  refine (Final.final6 m c).trans ?_
  rw [entry_dy]
  rfl

/-- The codes that the reference returns. -/
theorem result_codes (c : Dev nD) : (dats m 0 c).arrAt 5 cfg0.N
    = codes (shapeCast S24576x14336 (m ((c : Thread nD τ).loc main_arg2)) shapeCasts_S4x6144x14336_S24576x14336)
        (Ideal.exp2 (Ideal.ofBits .f32 0x00000000#32 - Exponent.refExpo (amax m c))) := by
  refine (Final.final5 m c).trans ?_
  rw [entry_dy]
  rfl

/-- The gradient that the reference returns. -/
theorem result_grad (c : Dev nD) : (dats m 0 c).arrAt 4 cfg0.N
    = grad (shapeCast S24576x4096 (m ((c : Thread nD τ).loc main_arg0)) shapeCasts_S4x6144x4096_S24576x4096)
        (shapeCast S24576x14336 (m ((c : Thread nD τ).loc main_arg2)) shapeCasts_S4x6144x14336_S24576x14336)
        (m ((c : Thread nD τ).loc main_arg3))
        (shapeCast S1x1 (m ((c : Thread nD τ).loc main_arg1)) shapeCasts_S_S1x1)
        (Ideal.exp2 (Exponent.refExpo (amax m c)))
        (Ideal.exp2 (Ideal.ofBits .f32 0x00000000#32 - Exponent.refExpo (amax m c))) := by
  refine (Final.final4 m c).trans ?_
  rw [entry_dy, entry_x, entry_xs, V_main_arg3]
  rfl

/-- The maximum's bounds are the bounds of the gradient that comes in. -/
theorem amax_le (c : Dev nD) (u : EReal) :
    amax m c ≤ u ↔ Bounds.Bounds (s := S4x6144x14336) (m ((c : Thread nD τ).loc main_arg2)) u :=
  (Final.amax_le _ u).trans (Bounds.bounds_shapeCast (s := S4x6144x14336) _ _ u)

end Cert.ReferenceIdeal.Result

namespace Cert.Proof

open Idealize.ShloMosaic Idealize.ShloMosaic.TcCoe Idealize.SL.Sem

/-- The kernel and the reference find the same maximum, and in range the same scale and the same inverse scale. -/
theorem scales (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal_in_range m)
    (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Ideal.exp2 (Exponent.refExpo (Cert.ReferenceIdeal.Result.amax m' c)) = Exponent.scale (Cert.KernelIdeal.Result.amax m ρ c)
    ∧ Ideal.exp2 (Ideal.ofBits .f32 0x00000000#32 - Exponent.refExpo (Cert.ReferenceIdeal.Result.amax m' c))
      = Exponent.inv (Cert.KernelIdeal.Result.amax m ρ c) := by
  have e : Cert.ReferenceIdeal.Result.amax m' c = Cert.KernelIdeal.Result.amax m ρ c :=
    eq_of_forall_ge_iff fun u => by
      rw [Cert.KernelIdeal.Result.amax_le m ρ c u, Cert.ReferenceIdeal.Result.amax_le m' c u, h]
  have hr := Cert.Pre_in_range.inRange _ _ _ _ (hpre c) _ (Cert.KernelIdeal.Result.amax_le m ρ c)
  rw [e]
  exact ⟨(Exponent.scales_eq _ hr).1.symm, (Exponent.scales_eq _ hr).2.symm⟩

open Cert.KernelIdeal.Gen in
/-- The kernel and the reference compute the same gradient, the same codes and the same scale over the extended
reals, at every input in range. -/
theorem algebraic : Cert.algebraic_KernelIdeal_ReferenceIdeal_pre_in_range := by
  intro m g m' g' hpre hagree
  refine ⟨fun c => W4 m g c (Proc.devRef .tc Cert.KernelIdeal.main_v4_0), fun c => W4 m g c (Proc.devRef .tc Cert.KernelIdeal.main_v4_1),
    fun c => W4 m g c (Proc.devRef .tc Cert.KernelIdeal.main_v2_0), ?_, ?_⟩
  · refine θ_run_mono (Cert.KernelIdeal.Gen.run m g) fun r hr c => ?_
    exact ⟨hr.1 c _ (mem_uc Cert.KernelIdeal.main_v4_0 (by decide)), hr.1 c _ (mem_uc Cert.KernelIdeal.main_v4_1 (by decide)),
      hr.1 c _ (mem_uc Cert.KernelIdeal.main_v2_0 (by decide)),
      (hr.1 c _ (mem_uc Cert.KernelIdeal.main_arg0 (by decide))).trans (W4_main_arg0 m g c),
      (hr.1 c _ (mem_uc Cert.KernelIdeal.main_arg1 (by decide))).trans (W4_main_arg1 m g c),
      (hr.1 c _ (mem_uc Cert.KernelIdeal.main_arg2 (by decide))).trans (W4_main_arg2 m g c),
      (hr.1 c _ (mem_uc Cert.KernelIdeal.main_arg3 (by decide))).trans (W4_main_arg3 m g c)⟩
  · refine θ_run_mono (Cert.ReferenceIdeal.Value.run_blocks m' g') fun r hr c => ?_
    obtain ⟨h4, h5, h6, hargs⟩ := hr c
    obtain ⟨a0, a1, a2, a3⟩ := hagree c
    obtain ⟨es, ei⟩ := scales m g m' c hpre a2
    refine ⟨h4.trans ?_, h5.trans ?_, h6.trans ?_, hargs⟩
    · refine (Cert.ReferenceIdeal.Result.result_grad m' c).trans (Eq.trans ?_ (Cert.KernelIdeal.Result.result_grad m g c).symm)
      rw [es, ei, a0, a1, a2, a3]
    · refine (Cert.ReferenceIdeal.Result.result_codes m' c).trans (Eq.trans ?_ (Cert.KernelIdeal.Result.result_codes m g c).symm)
      rw [ei, a2]
    · refine (Cert.ReferenceIdeal.Result.result_scale m' c).trans (Eq.trans ?_ (Cert.KernelIdeal.Result.result_scale m g c).symm)
      rw [es]
      rfl

end Cert.Proof

end
-- ==== Proof.lean ====
module

public import proofs.«01_k».proof.Defs
public import proofs.«01_k».proof.Proof.Whole.Kernel.Frame
public import proofs.«01_k».proof.Proof.Whole.KernelIdeal.Frame
public import proofs.«01_k».proof.Proof.Gen.Reference.Frame
public import proofs.«01_k».proof.Proof.Gen.ReferenceIdeal.Value
public import proofs.«01_k».proof.Proof.Gen.Pre_in_range
public import proofs.«01_k».proof.Proof.Value.Claim
public import Idealize.ShloMosaic.Adequacy
public import Idealize.ShloMosaic.Init

@[expose] public section

noncomputable section

namespace Cert.Proof

open Idealize.ShloMosaic Idealize.SL.Sem

/-- Everything that the certificate claims. -/
theorem claim : Cert.Claim :=
  ⟨Cert.Kernel.Gen.facts, Cert.KernelIdeal.Gen.facts, Cert.ReferenceIdeal.Gen.facts, Cert.Reference.Gen.facts,
    Cert.Pre_in_range.Gen.facts,
    fun m ρ _ => Cert.Kernel.Gen.frame m ρ,
    fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    fun m ρ _ => Cert.Reference.Gen.frame m ρ,
    trivial,
    IdealRules.named_const.statement Cert.ReferenceIdeal.κ "ln_2" .f32 0x3F317218#32 ((Real.log 2 : ℝ) : EReal) rfl,
    Cert.Proof.algebraic⟩

end Cert.Proof

end
